-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x64x128x128 : Shape := ⟨4, ![16, 64, 128, 128]⟩
abbrev S16x64x128 : Shape := ⟨3, ![16, 64, 128]⟩
abbrev S16x64 : Shape := ⟨2, ![16, 64]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel
  reducesTo_S16x64x128_S16x64_d2 : S16x64x128.ReducesTo [2] S16x64
  reducesTo_S16x64_S_d0_1 : S16x64.ReducesTo [0, 1] S_

variable [Facts]

def fn {F : FTy → Type} [FloatOps F] (main_arg0 : FVec F S16x64x128x128 .f32) (main_arg1 : IVec S16x64x128 1) (main_arg2 : IVec S16x64 1) : IVec S_ 1 :=
  let main_cst : FVec F S_ .f32 := constant S_ .f32 0xC1200000#32
  let main_v0 : FVec F S16x64x128x128 .f32 := broadcastInDim S16x64x128x128 ![] bcast_S_S16x64x128x128 main_cst
  let main_v1 : IVec S16x64x128x128 1 := cmpf .oge main_arg0 main_v0
  let main_cst_0 : FVec F S_ .f32 := constant S_ .f32 0x41200000#32
  let main_v2 : FVec F S16x64x128x128 .f32 := broadcastInDim S16x64x128x128 ![] bcast_S_S16x64x128x128 main_cst_0
  let main_v3 : IVec S16x64x128x128 1 := cmpf .ole main_arg0 main_v2
  let main_v4 : IVec S16x64x128x128 1 := andi main_v1 main_v3
  let main_c : IVec S_ 1 := constantI S_ 1 1#1
  let main_v5 : IVec S_ 1 := (fun x v => Host.reduce IntOp.andi x v reducesTo_S16x64x128x128_S_d0_1_2_3 h_S_) main_v4 main_c
  let main_v6 : IVec S16x64x128 1 := noti main_arg1
  let main_c_1 : IVec S_ 1 := constantI S_ 1 0#1
  let main_v7 : IVec S16x64 1 := (fun x v => Host.reduce IntOp.ori x v reducesTo_S16x64x128_S16x64_d2 h_S_) main_v6 main_c_1
  let main_c_2 : IVec S_ 1 := constantI S_ 1 1#1
  let main_v8 : IVec S_ 1 := (fun x v => Host.reduce IntOp.andi x v reducesTo_S16x64_S_d0_1 h_S_) main_v7 main_c_2
  let main_v9 : IVec S_ 1 := andi main_v5 main_v8
  let main_c_3 : IVec S_ 1 := constantI S_ 1 1#1
  let main_v10 : IVec S_ 1 := (fun x v => Host.reduce IntOp.andi x v reducesTo_S16x64_S_d0_1 h_S_) main_arg2 main_c_3
  let main_v11 : IVec S_ 1 := andi main_v9 main_v10
  main_v11
-- ==== Kernel.lean ====
abbrev S16x64x128x128 : Shape := ⟨4, ![16, 64, 128, 128]⟩
abbrev S16x64x128 : Shape := ⟨3, ![16, 64, 128]⟩
abbrev S16x64 : Shape := ⟨2, ![16, 64]⟩
abbrev S64x16x128 : Shape := ⟨3, ![64, 16, 128]⟩
abbrev S_ : Shape := ⟨0, ![]⟩
abbrev S64x16x1x128 : Shape := ⟨4, ![64, 16, 1, 128]⟩
abbrev S64x16x2x128 : Shape := ⟨4, ![64, 16, 2, 128]⟩
abbrev S1x1x1 : Shape := ⟨3, ![1, 1, 1]⟩
abbrev S16x4x128x128 : Shape := ⟨4, ![16, 4, 128, 128]⟩
abbrev S4x16x2x128 : Shape := ⟨4, ![4, 16, 2, 128]⟩
abbrev S16x2x128 : Shape := ⟨3, ![16, 2, 128]⟩
abbrev S16x2 : Shape := ⟨2, ![16, 2]⟩
abbrev S16x1x1x128 : Shape := ⟨4, ![16, 1, 1, 128]⟩
abbrev S16x128 : Shape := ⟨2, ![16, 128]⟩
abbrev S1x16x1x128 : Shape := ⟨4, ![1, 16, 1, 128]⟩
abbrev S16 : Shape := ⟨1, ![16]⟩
abbrev S16x1 : Shape := ⟨2, ![16, 1]⟩
abbrev S16x1x128 : Shape := ⟨3, ![16, 1, 128]⟩
abbrev S16x1x128x128 : Shape := ⟨4, ![16, 1, 128, 128]⟩
abbrev S16x128x128 : Shape := ⟨3, ![16, 128, 128]⟩
abbrev S1x16x2x128 : Shape := ⟨4, ![1, 16, 2, 128]⟩
abbrev S16x2x1 : Shape := ⟨3, ![16, 2, 1]⟩
abbrev S1x16x1x1 : Shape := ⟨4, ![1, 16, 1, 1]⟩
abbrev S1 : Shape := ⟨1, ![1]⟩
abbrev S1x1 : Shape := ⟨2, ![1, 1]⟩

abbrev nBuf : Space → Nat
  | .hbm => 14
  | .vmem => 7
  | .smem => 0
  | _ => 0

abbrev bufTy : (tb : Table) → Fin (tcTables nBuf tb) → BufTy
  | .hbm, ⟨0, _⟩ => ⟨S16x64x128x128, .f32⟩
  | .hbm, ⟨1, _⟩ => ⟨S16x64x128, .i1⟩
  | .hbm, ⟨2, _⟩ => ⟨S16x64, .i1⟩
  | .hbm, ⟨3, _⟩ => ⟨S64x16x128, .i1⟩
  | .hbm, ⟨4, _⟩ => ⟨S64x16x128, .f32⟩
  | .hbm, ⟨5, _⟩ => ⟨S_, .f32⟩
  | .hbm, ⟨6, _⟩ => ⟨S64x16x128, .f32⟩
  | .hbm, ⟨7, _⟩ => ⟨S_, .f32⟩
  | .hbm, ⟨8, _⟩ => ⟨S64x16x128, .f32⟩
  | .hbm, ⟨9, _⟩ => ⟨S64x16x128, .f32⟩
  | .hbm, ⟨10, _⟩ => ⟨S64x16x1x128, .f32⟩
  | .hbm, ⟨11, _⟩ => ⟨S64x16x1x128, .f32⟩
  | .hbm, ⟨12, _⟩ => ⟨S64x16x2x128, .f32⟩
  | .hbm, ⟨13, _⟩ => ⟨S1x1x1, .f32⟩
  | .local _ .vmem, ⟨0, _⟩ => ⟨S16x4x128x128, .f32⟩
  | .local _ .vmem, ⟨1, _⟩ => ⟨S16x4x128x128, .f32⟩
  | .local _ .vmem, ⟨2, _⟩ => ⟨S4x16x2x128, .f32⟩
  | .local _ .vmem, ⟨3, _⟩ => ⟨S4x16x2x128, .f32⟩
  | .local _ .vmem, ⟨4, _⟩ => ⟨S1x1x1, .f32⟩
  | .local _ .vmem, ⟨5, _⟩ => ⟨S16x2x128, .f32⟩
  | .local _ .vmem, ⟨6, _⟩ => ⟨S16x2, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v64 : BitVec 1 := Scalar.cmpi .eq arg0 c15_i32
  let v65 : BitVec 32 := Scalar.extui v64
  let c0_i32_57 : BitVec 32 := 0#32
  let v66 : BitVec 1 := Scalar.cmpi .ne v65 c0_i32_57
  v66

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16x64x128x128 : Shape := ⟨4, ![16, 64, 128, 128]⟩
abbrev S16x64x128 : Shape := ⟨3, ![16, 64, 128]⟩
abbrev S16x64 : Shape := ⟨2, ![16, 64]⟩
abbrev S64x16x128x128 : Shape := ⟨4, ![64, 16, 128, 128]⟩
abbrev S64x16x128 : Shape := ⟨3, ![64, 16, 128]⟩
abbrev S64x16 : Shape := ⟨2, ![64, 16]⟩
abbrev S1x16x128x128 : Shape := ⟨4, ![1, 16, 128, 128]⟩
abbrev S16x128x128 : Shape := ⟨3, ![16, 128, 128]⟩
abbrev S16x1x128 : Shape := ⟨3, ![16, 1, 128]⟩
abbrev S16x128 : Shape := ⟨2, ![16, 128]⟩
abbrev S1x16x128 : Shape := ⟨3, ![1, 16, 128]⟩
abbrev S_ : Shape := ⟨0, ![]⟩
abbrev S16x128x1 : Shape := ⟨3, ![16, 128, 1]⟩
abbrev S1x16 : Shape := ⟨2, ![1, 16]⟩
abbrev S16 : Shape := ⟨1, ![16]⟩
abbrev S16x1 : Shape := ⟨2, ![16, 1]⟩
abbrev S1x1x1 : Shape := ⟨3, ![1, 1, 1]⟩

abbrev nBuf : Space → Nat
  | .hbm => 157
  | .vmem => 0
  | .smem => 0
  | _ => 0

abbrev hbmTy0_0 (i : Nat) : BufTy := match i % 128 with
  | 0 => ⟨S16x64x128x128, .f32⟩
  | 1 => ⟨S16x64x128, .i1⟩
  | 2 => ⟨S16x64, .i1⟩
  | 3 => ⟨S64x16x128x128, .f32⟩
  | 4 => ⟨S64x16x128, .i1⟩
  | 5 => ⟨S64x16, .i1⟩
  | 6 => ⟨S1x16x128x128, .f32⟩
  | 7 => ⟨S16x128x128, .f32⟩
  | 8 => ⟨S16x1x128, .f32⟩
  | 9 => ⟨S16x128, .f32⟩
  | 10 => ⟨S1x16x128, .i1⟩
  | 11 => ⟨S16x128, .i1⟩
  | 12 => ⟨S_, .f32⟩
  | 13 => ⟨S_, .f32⟩
  | 14 => ⟨S16x128, .f32⟩
  | 15 => ⟨S16x128, .f32⟩
  | 16 => ⟨S_, .i32⟩
  | 17 => ⟨S_, .i32⟩
  | 18 => ⟨S64x16x128x128, .f32⟩
  | 19 => ⟨S64x16x128, .i1⟩
  | 20 => ⟨S64x16, .i1⟩
  | 21 => ⟨S_, .i32⟩
  | 22 => ⟨S_, .i32⟩
  | 23 => ⟨S16x128, .f32⟩
  | 24 => ⟨S16x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x16x128x128, .f32⟩
  | 60 => ⟨S16x128x128, .f32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x16x128, .i1⟩
  | 84 => ⟨S16x128, .i1⟩
  | 85 => ⟨S16x128x1, .f32⟩
  | 86 => ⟨S16x128x128, .f32⟩
  | 87 => ⟨S16x128x128, .f32⟩
  | 88 => ⟨S_, .f32⟩
  | 89 => ⟨S16x128, .f32⟩
  | 90 => ⟨S16x1x128, .f32⟩
  | 91 => ⟨S16x128, .f32⟩
  | 92 => ⟨S16x128x128, .f32⟩
  | 93 => ⟨S16x128x128, .f32⟩
  | 94 => ⟨S16x128x128, .f32⟩
  | 95 => ⟨S_, .f32⟩
  | 96 => ⟨S16x128, .f32⟩
  | 97 => ⟨S16x128, .f32⟩
  | 98 => ⟨S16x128, .f32⟩
  | 99 => ⟨S_, .f32⟩
  | 100 => ⟨S_, .f32⟩
  | 101 => ⟨S16x128, .f32⟩
  | 102 => ⟨S16x128, .f32⟩
  | 103 => ⟨S16x128x1, .f32⟩
  | 104 => ⟨S16x128x128, .f32⟩
  | 105 => ⟨S16x128x128, .f32⟩
  | 106 => ⟨S_, .f32⟩
  | 107 => ⟨S16x128, .f32⟩
  | 108 => ⟨S16x1x128, .f32⟩
  | 109 => ⟨S16x128, .f32⟩
  | 110 => ⟨S16x128x128, .f32⟩
  | 111 => ⟨S16x128x128, .f32⟩
  | 112 => ⟨S16x128x128, .f32⟩
  | 113 => ⟨S_, .f32⟩
  | 114 => ⟨S16x128, .f32⟩
  | 115 => ⟨S16x128, .f32⟩
  | 116 => ⟨S16x128, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S16x64x128x128, .f32⟩

abbrev hbmTy0_1 (i : Nat) : BufTy := match i % 128 with
  | 0 => ⟨S_, .i32⟩
  | 1 => ⟨S_, .i32⟩
  | 2 => ⟨S_, .i32⟩
  | 3 => ⟨S1x16, .i1⟩
  | 4 => ⟨S16, .i1⟩
  | 5 => ⟨S16x1, .i1⟩
  | 6 => ⟨S16x128, .i1⟩
  | 7 => ⟨S16x128, .f32⟩
  | 8 => ⟨S16x128, .i1⟩
  | 9 => ⟨S16x128, .f32⟩
  | 10 => ⟨S_, .i32⟩
  | 11 => ⟨S_, .i32⟩
  | 12 => ⟨S16x1, .f32⟩
  | 13 => ⟨S16, .f32⟩
  | 14 => ⟨S_, .f32⟩
  | 15 => ⟨S16, .f32⟩
  | 16 => ⟨S16, .i1⟩
  | 17 => ⟨S_, .f32⟩
  | 18 => ⟨S_, .f32⟩
  | 19 => ⟨S16, .f32⟩
  | 20 => ⟨S16, .f32⟩
  | 21 => ⟨S_, .f32⟩
  | 22 => ⟨S_, .f32⟩
  | 23 => ⟨S16x1, .f32⟩
  | 24 => ⟨S16, .f32⟩
  | 25 => ⟨S_, .f32⟩
  | 26 => ⟨S_, .f32⟩
  | 27 => ⟨S_, .f32⟩
  | 28 => ⟨S1x1x1, .f32⟩
  | _ => ⟨S16x64x128x128, .f32⟩

abbrev hbmTy (i : Nat) : BufTy := match i / 128 with
  | 0 => hbmTy0_0 i
  | 1 => hbmTy0_1 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_c : Ref sig .tc := ⟨.hbm, 16, rfl⟩
abbrev main_c_0 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_while0c_c_11 : Ref sig .tc := ⟨.hbm, 25, rfl⟩
abbrev main_while0c_v22 : Ref sig .tc := ⟨.hbm, 26, rfl⟩
abbrev main_while0b_c_11 : Ref sig .tc := ⟨.hbm, 27, rfl⟩
abbrev main_while0b_v22 : Ref sig .tc := ⟨.hbm, 28, rfl⟩
abbrev main_while0b_v23 : Ref sig .tc := ⟨.hbm, 29, rfl⟩
abbrev main_while0b_c_12 : Ref sig .tc := ⟨.hbm, 30, rfl⟩
abbrev main_while0b_v24 : Ref sig .tc := ⟨.hbm, 31, rfl⟩
abbrev main_while0b_c_13 : Ref sig .tc := ⟨.hbm, 32, rfl⟩
abbrev main_while0b_v25 : Ref sig .tc := ⟨.hbm, 33, rfl⟩
abbrev main_while0b_v26 : Ref sig .tc := ⟨.hbm, 34, rfl⟩
abbrev main_while0b_c_14 : Ref sig .tc := ⟨.hbm, 35, rfl⟩
abbrev main_while0b_c_15 : Ref sig .tc := ⟨.hbm, 36, rfl⟩
abbrev main_while0b_v27 : Ref sig .tc := ⟨.hbm, 37, rfl⟩
abbrev main_while0b_c_16 : Ref sig .tc := ⟨.hbm, 38, rfl⟩
abbrev main_while0b_c_17 : Ref sig .tc := ⟨.hbm, 39, rfl⟩
abbrev main_while0b_v28 : Ref sig .tc := ⟨.hbm, 40, rfl⟩
abbrev main_while0b_c_18 : Ref sig .tc := ⟨.hbm, 41, rfl⟩
abbrev main_while0b_v29 : Ref sig .tc := ⟨.hbm, 42, rfl⟩
abbrev main_while0b_c_19 : Ref sig .tc := ⟨.hbm, 43, rfl⟩
abbrev main_while0b_c_20 : Ref sig .tc := ⟨.hbm, 44, rfl⟩
abbrev main_while0b_v30 : Ref sig .tc := ⟨.hbm, 45, rfl⟩
abbrev main_while0b_c_21 : Ref sig .tc := ⟨.hbm, 46, rfl⟩
abbrev main_while0b_c_22 : Ref sig .tc := ⟨.hbm, 47, rfl⟩
abbrev main_while0b_v31 : Ref sig .tc := ⟨.hbm, 48, rfl⟩
abbrev main_while0b_c_23 : Ref sig .tc := ⟨.hbm, 49, rfl⟩
abbrev main_while0b_v32 : Ref sig .tc := ⟨.hbm, 50, rfl⟩
abbrev main_while0b_c_24 : Ref sig .tc := ⟨.hbm, 51, rfl⟩
abbrev main_while0b_c_25 : Ref sig .tc := ⟨.hbm, 52, rfl⟩
abbrev main_while0b_v33 : Ref sig .tc := ⟨.hbm, 53, rfl⟩
abbrev main_while0b_c_26 : Ref sig .tc := ⟨.hbm, 54, rfl⟩
abbrev main_while0b_c_27 : Ref sig .tc := ⟨.hbm, 55, rfl⟩
abbrev main_while0b_v34 : Ref sig .tc := ⟨.hbm, 56, rfl⟩
abbrev main_while0b_c_28 : Ref sig .tc := ⟨.hbm, 57, rfl⟩
abbrev main_while0b_v35 : Ref sig .tc := ⟨.hbm, 58, rfl⟩
abbrev main_while0b_v36 : Ref sig .tc := ⟨.hbm, 59, rfl⟩
abbrev main_while0b_v37 : Ref sig .tc := ⟨.hbm, 60, rfl⟩
abbrev main_while0b_v38 : Ref sig .tc := ⟨.hbm, 61, rfl⟩
abbrev main_while0b_c_29 : Ref sig .tc := ⟨.hbm, 62, rfl⟩
abbrev main_while0b_v39 : Ref sig .tc := ⟨.hbm, 63, rfl⟩
abbrev main_while0b_c_30 : Ref sig .tc := ⟨.hbm, 64, rfl⟩
abbrev main_while0b_v40 : Ref sig .tc := ⟨.hbm, 65, rfl⟩
abbrev main_while0b_v41 : Ref sig .tc := ⟨.hbm, 66, rfl⟩
abbrev main_while0b_c_31 : Ref sig .tc := ⟨.hbm, 67, rfl⟩
abbrev main_while0b_c_32 : Ref sig .tc := ⟨.hbm, 68, rfl⟩
abbrev main_while0b_v42 : Ref sig .tc := ⟨.hbm, 69, rfl⟩
abbrev main_while0b_c_33 : Ref sig .tc := ⟨.hbm, 70, rfl⟩
abbrev main_while0b_c_34 : Ref sig .tc := ⟨.hbm, 71, rfl⟩
abbrev main_while0b_v43 : Ref sig .tc := ⟨.hbm, 72, rfl⟩
abbrev main_while0b_c_35 : Ref sig .tc := ⟨.hbm, 73, rfl⟩
abbrev main_while0b_v44 : Ref sig .tc := ⟨.hbm, 74, rfl⟩
abbrev main_while0b_c_36 : Ref sig .tc := ⟨.hbm, 75, rfl⟩
abbrev main_while0b_c_37 : Ref sig .tc := ⟨.hbm, 76, rfl⟩
abbrev main_while0b_v45 : Ref sig .tc := ⟨.hbm, 77, rfl⟩
abbrev main_while0b_c_38 : Ref sig .tc := ⟨.hbm, 78, rfl⟩
abbrev main_while0b_c_39 : Ref sig .tc := ⟨.hbm, 79, rfl⟩
abbrev main_while0b_v46 : Ref sig .tc := ⟨.hbm, 80, rfl⟩
abbrev main_while0b_c_40 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_cst_41 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_cst_42 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_cst_43 : Ref sig .tc := ⟨.hbm, 99, rfl⟩
abbrev main_while0b_call1_v0 : Ref sig .tc := ⟨.hbm, 100, rfl⟩
abbrev main_while0b_call1_v1 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_cst_44 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_cst_45 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_c_46 : Ref sig .tc := ⟨.hbm, 118, rfl⟩
abbrev main_while0b_v76 : Ref sig .tc := ⟨.hbm, 119, rfl⟩
abbrev main_while0b_c_47 : Ref sig .tc := ⟨.hbm, 120, rfl⟩
abbrev main_while0b_v77 : Ref sig .tc := ⟨.hbm, 121, rfl⟩
abbrev main_while0b_v78 : Ref sig .tc := ⟨.hbm, 122, rfl⟩
abbrev main_while0b_c_48 : Ref sig .tc := ⟨.hbm, 123, rfl⟩
abbrev main_while0b_c_49 : Ref sig .tc := ⟨.hbm, 124, rfl⟩
abbrev main_while0b_v79 : Ref sig .tc := ⟨.hbm, 125, rfl⟩
abbrev main_while0b_c_50 : Ref sig .tc := ⟨.hbm, 126, rfl⟩
abbrev main_while0b_c_51 : Ref sig .tc := ⟨.hbm, 127, rfl⟩
abbrev main_while0b_v80 : Ref sig .tc := ⟨.hbm, 128, rfl⟩
abbrev main_while0b_c_52 : Ref sig .tc := ⟨.hbm, 129, rfl⟩
abbrev main_while0b_v81 : Ref sig .tc := ⟨.hbm, 130, rfl⟩
abbrev main_while0b_v82 : Ref sig .tc := ⟨.hbm, 131, rfl⟩
abbrev main_while0b_v83 : Ref sig .tc := ⟨.hbm, 132, rfl⟩
abbrev main_while0b_v84 : Ref sig .tc := ⟨.hbm, 133, rfl⟩
abbrev main_while0b_call2_v0 : Ref sig .tc := ⟨.hbm, 134, rfl⟩
abbrev main_while0b_v85 : Ref sig .tc := ⟨.hbm, 135, rfl⟩
abbrev main_while0b_call3_v0 : Ref sig .tc := ⟨.hbm, 136, rfl⟩
abbrev main_while0b_v86 : Ref sig .tc := ⟨.hbm, 137, rfl⟩
abbrev main_while0b_c_53 : Ref sig .tc := ⟨.hbm, 138, rfl⟩
abbrev main_while0b_v87 : Ref sig .tc := ⟨.hbm, 139, rfl⟩
abbrev main_v11 : Ref sig .tc := ⟨.hbm, 140, rfl⟩
abbrev main_v12 : Ref sig .tc := ⟨.hbm, 141, rfl⟩
abbrev main_cst_1 : Ref sig .tc := ⟨.hbm, 142, rfl⟩
abbrev main_v13 : Ref sig .tc := ⟨.hbm, 143, rfl⟩
abbrev main_v14 : Ref sig .tc := ⟨.hbm, 144, rfl⟩
abbrev main_cst_2 : Ref sig .tc := ⟨.hbm, 145, rfl⟩
abbrev main_call4_v0 : Ref sig .tc := ⟨.hbm, 146, rfl⟩
abbrev main_call4_v1 : Ref sig .tc := ⟨.hbm, 147, rfl⟩
abbrev main_v15 : Ref sig .tc := ⟨.hbm, 148, rfl⟩
abbrev main_cst_3 : Ref sig .tc := ⟨.hbm, 149, rfl⟩
abbrev main_v16 : Ref sig .tc := ⟨.hbm, 150, rfl⟩
abbrev main_v17 : Ref sig .tc := ⟨.hbm, 151, rfl⟩
abbrev main_v18 : Ref sig .tc := ⟨.hbm, 152, rfl⟩
abbrev main_cst_4 : Ref sig .tc := ⟨.hbm, 153, rfl⟩
abbrev main_v19 : Ref sig .tc := ⟨.hbm, 154, rfl⟩
abbrev main_v20 : Ref sig .tc := ⟨.hbm, 155, rfl⟩
abbrev main_v21 : Ref sig .tc := ⟨.hbm, 156, rfl⟩

abbrev nD : Nat := 1
abbrev τ : Topo := Topo.v7x

variable {F : FTy → Type} [FloatOps F]

abbrev main_while0_count : Scf.Loop 32 := ⟨0#32, 63#32, 1#32⟩
-- ==== Proof.Chain.lean ====
module

public import Idealize.ShloMosaic.PureOps.Ideal
public import Idealize.ShloMosaic.Lib.Pointwise

@[expose] public section

set_option maxRecDepth 16384
noncomputable section

/-! What one pair (sequence, row) of the kernel computes, as functions of the score matrix, the mask row and the
    weights: scalars and rows of 128 only. -/
namespace Cert.Crf

open Idealize.ShloMosaic

/-- The weights carried through one score matrix `x`, not yet masked. -/
def us (x : Fin 128 → Fin 128 → EReal) (w : Fin 128 → EReal) : Fin 128 → EReal :=
  fun j => ∑ l : Fin 128, w l * Ideal.exp (x l j)

/-- The weights carried through one score matrix and masked. -/
def uw (x : Fin 128 → Fin 128 → EReal) (q w : Fin 128 → EReal) : Fin 128 → EReal :=
  fun j => us x w j * q j

/-- The kernel's smallest divisor. -/
def tiny : EReal := Ideal.ofBits .f32 0x0DA24260#32

/-- The kernel's smallest weight under the last logarithm. -/
def lowest : EReal := Ideal.ofBits .f32 0x02081CEA#32

/-- The kernel's divisor: the largest carried weight, at least `tiny`. -/
def sm (x : Fin 128 → Fin 128 → EReal) (w : Fin 128 → EReal) : EReal :=
  max (Finset.univ.fold max ⊥ (us x w)) tiny

/-- The weights carried through one score matrix, masked and divided. -/
def un (x : Fin 128 → Fin 128 → EReal) (q w : Fin 128 → EReal) : Fin 128 → EReal :=
  fun j => Ideal.div (us x w j * q j) (sm x w)

/-- The weights before the last matrix of a block of four. -/
def tail3 (x : Fin 4 → Fin 128 → Fin 128 → EReal) (q : Fin 4 → Fin 128 → EReal) (w : Fin 128 → EReal) : Fin 128 → EReal :=
  uw (x 2) (q 2) (uw (x 1) (q 1) w)

/-- The weights after a block, from those after its first matrix. -/
def bw (x : Fin 4 → Fin 128 → Fin 128 → EReal) (q : Fin 4 → Fin 128 → EReal) (w : Fin 128 → EReal) : Fin 128 → EReal :=
  un (x 3) (q 3) (tail3 x q w)

/-- The logarithm a block adds to the offset, from the weights after its first matrix. -/
def bo (x : Fin 4 → Fin 128 → Fin 128 → EReal) (q : Fin 4 → Fin 128 → EReal) (w : Fin 128 → EReal) : EReal :=
  Ideal.log (sm (x 3) (tail3 x q w))

/-- Row `r`'s first offset: the largest first score; for the masked row (`r = 1`), the largest unmasked one. -/
def io (x q : Fin 128 → EReal) (r : Fin 2) : EReal :=
  Finset.univ.fold max ⊥ fun j => if r = 0 then x j else if q j < Ideal.ofBits .f32 0x3F000000#32 then Ideal.ofBits .f32 0xC7C35000#32 else x j

/-- Row `r`'s first weights. -/
def iw (x q : Fin 128 → EReal) (r : Fin 2) : Fin 128 → EReal :=
  fun j => if r = 0 then Ideal.exp (x j - io x q 0) else q j * Ideal.exp (x j - io x q 1)

/-- The reference's step into tag `j` from the scores `p`: the largest move plus the logarithm of the sum of the
    exponentials of the moves less the largest. -/
def lse (x : Fin 128 → Fin 128 → EReal) (p : Fin 128 → EReal) : Fin 128 → EReal :=
  fun j => Finset.univ.fold max ⊥ (fun l => x l j + p l)
    + Ideal.log (∑ l : Fin 128, Ideal.exp (x l j + p l - Finset.univ.fold max ⊥ (fun l => x l j + p l)))

/-- The word of minus infinity. -/
theorem ninf : Ideal.ofBits .f32 0xFF800000#32 = ⊥ := by simp [Ideal.ofBits, Ideal.ieee]

end Cert.Crf

end
-- ==== Proof.Forward.lean ====
module

public import proofs.«01_k».proof.Proof.Chain

@[expose] public section

set_option maxRecDepth 16384
noncomputable section

/-!
# The forward recursion over the reals

What the kernel's weights and offsets, and the reference's log masses, stand for: the masses of the forward recursion `A`.
-/

namespace Cert.Crf
open Idealize Idealize.ShloMosaic

/-- The mass of tag `j` at position `t`: the total of `exp (score)` over the tag paths ending there, where a dropped tag (`g t j`) carries no mass. -/
def A (x : ℕ → Fin 128 → Fin 128 → ℝ) (g : ℕ → Fin 128 → Bool) : ℕ → Fin 128 → ℝ
  | 0, j => if g 0 j then 0 else Real.exp (x 0 126 j)
  | t + 1, j => if g (t + 1) j then 0 else ∑ l, A x g t l * Real.exp (x (t + 1) l j)

/-- The log masses as the reference computes them, one position after another. -/
def RF (x : ℕ → Fin 128 → Fin 128 → EReal) (g : ℕ → Fin 128 → Bool) : ℕ → Fin 128 → EReal
  | 0, j => if g 0 j then ⊥ else x 0 126 j
  | t + 1, j => if g (t + 1) j then ⊥ else lse (x (t + 1)) (RF x g t) j

/-- Sums of reals may be taken before or after the inclusion in the extended reals. -/
theorem sum_real {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- No mass is negative. -/
theorem A_nonneg (x : ℕ → Fin 128 → Fin 128 → ℝ) (g : ℕ → Fin 128 → Bool) (t : ℕ) (j : Fin 128) : 0 ≤ A x g t j := by
  induction t generalizing j with
  | zero => unfold A; split <;> positivity
  | succ t ih =>
    unfold A
    split
    · exact le_rfl
    · exact Finset.sum_nonneg fun l _ => mul_nonneg (ih l) (Real.exp_pos _).le

/-- A tag that is not dropped has positive mass, as long as every position keeps a tag. -/
theorem A_pos (x : ℕ → Fin 128 → Fin 128 → ℝ) (g : ℕ → Fin 128 → Bool) (hg : ∀ t, ∃ j, g t j = false) (t : ℕ) (j : Fin 128)
    (hj : g t j = false) : 0 < A x g t j := by
  induction t generalizing j with
  | zero => unfold A; simp [hj, Real.exp_pos]
  | succ t ih =>
    obtain ⟨i, hi⟩ := hg t
    unfold A
    rw [if_neg (by simp [hj])]
    exact lt_of_lt_of_le (mul_pos (ih i hi) (Real.exp_pos _))
      (Finset.single_le_sum (f := fun l => A x g t l * Real.exp (x (t + 1) l j))
        (fun l _ => mul_nonneg (A_nonneg x g t l) (Real.exp_pos _).le) (Finset.mem_univ i))

/-- A dropped tag has no mass. -/
theorem A_drop (x : ℕ → Fin 128 → Fin 128 → ℝ) (g : ℕ → Fin 128 → Bool) (t : ℕ) (j : Fin 128) (hj : g t j = true) : A x g t j = 0 := by
  cases t <;> (unfold A; simp [hj])

/-- A largest entry that is below the top and of which one entry is above the bottom is a real. -/
theorem fold_real (f : Fin 128 → EReal) (h : ∀ j, f j ≠ ⊤) (i : Fin 128) (hi : f i ≠ ⊥) :
    ∃ r : ℝ, Finset.univ.fold max ⊥ f = (r : EReal) := by
  have h1 : Finset.univ.fold max ⊥ f ≠ ⊤ := by
    refine ne_of_lt (Finset.fold_max_lt _ |>.2 ⟨bot_lt_top, fun j _ => lt_top_iff_ne_top.2 (h j)⟩)
  have h2 : Finset.univ.fold max ⊥ f ≠ ⊥ := by
    have : f i ≤ Finset.univ.fold max ⊥ f := Finset.le_fold_max _ |>.2 (Or.inr ⟨i, Finset.mem_univ _, le_rfl⟩)
    intro hb
    rw [hb, le_bot_iff] at this
    exact hi this
  exact ⟨_, (EReal.coe_toReal h1 h2).symm⟩

/-- The logarithm of a positive real. -/
theorem log_pos_coe {r : ℝ} (h : 0 < r) : Ideal.log (r : EReal) = (Real.log r : EReal) := by
  rw [Ideal.log_coe, if_neg (not_le.2 h)]

/-- The logarithm of nothing. -/
theorem log_none : Ideal.log (0 : EReal) = ⊥ := by
  rw [← EReal.coe_zero, Ideal.log_coe, if_pos le_rfl]

/-- One log-sum-exp step on log masses gives the log of the summed masses. -/
theorem lse_log (a : Fin 128 → ℝ) (ha : ∀ l, 0 ≤ a l) (i : Fin 128) (hi : 0 < a i) (x : Fin 128 → Fin 128 → ℝ) (j : Fin 128) :
    lse (fun l j => (x l j : EReal)) (fun l => Ideal.log (a l : EReal)) j = Ideal.log ((∑ l, a l * Real.exp (x l j) : ℝ) : EReal) := by
  have hp : 0 < ∑ l, a l * Real.exp (x l j) :=
    lt_of_lt_of_le (mul_pos hi (Real.exp_pos _))
      (Finset.single_le_sum (f := fun l => a l * Real.exp (x l j)) (fun l _ => mul_nonneg (ha l) (Real.exp_pos _).le) (Finset.mem_univ i))
  have hne : ∀ l, (x l j : EReal) + Ideal.log (a l : EReal) = if a l ≤ 0 then ⊥ else ((x l j + Real.log (a l) : ℝ) : EReal) := by
    intro l
    rw [Ideal.log_coe]
    split
    · exact EReal.add_bot _
    · rw [EReal.coe_add]
  obtain ⟨m, hm⟩ := fold_real (fun l => (x l j : EReal) + Ideal.log (a l : EReal))
    (fun l => by rw [hne]; split <;> simp [-EReal.coe_add]) i (by rw [hne, if_neg (not_le.2 hi)]; simp [-EReal.coe_add])
  unfold lse
  simp only [hm]
  have hterm : ∀ l, Ideal.exp ((x l j : EReal) + Ideal.log (a l : EReal) - (m : EReal)) = ((a l * Real.exp (x l j) * Real.exp (-m) : ℝ) : EReal) := by
    intro l
    rw [hne]
    split
    · rename_i h
      have : a l = 0 := le_antisymm h (ha l)
      simp [this]
    · rename_i h
      rw [← EReal.coe_sub, Ideal.exp_coe]
      congr 1
      rw [sub_eq_add_neg, Real.exp_add, Real.exp_add, Real.exp_log (not_le.1 h)]
      ring
  simp only [hterm]
  rw [sum_real, ← Finset.sum_mul, log_pos_coe hp, log_pos_coe (mul_pos hp (Real.exp_pos _)),
    Real.log_mul hp.ne' (Real.exp_pos _).ne', Real.log_exp, ← EReal.coe_add]
  congr 1
  ring

/-- The reference's log masses are the logs of the masses. -/
theorem RF_eq (x : ℕ → Fin 128 → Fin 128 → ℝ) (g : ℕ → Fin 128 → Bool) (hg : ∀ t, ∃ j, g t j = false) (t : ℕ) (j : Fin 128) :
    RF (fun t l j => (x t l j : EReal)) g t j = Ideal.log (A x g t j : EReal) := by
  induction t generalizing j with
  | zero =>
    unfold RF A
    split
    · simp [log_none]
    · rw [log_pos_coe (Real.exp_pos _), Real.log_exp]
  | succ t ih =>
    unfold RF A
    split
    · simp [log_none]
    · obtain ⟨i, hi⟩ := hg t
      have : RF (fun t l j => (x t l j : EReal)) g t = fun l => Ideal.log (A x g t l : EReal) := funext ih
      rw [this]
      exact lse_log (A x g t) (A_nonneg x g t) i (A_pos x g hg t i hi) (x (t + 1)) j

/-- Reading a log mass with the dropped tag sent to zero. -/
theorem log_read (x : ℕ → Fin 128 → Fin 128 → ℝ) (g : ℕ → Fin 128 → Bool) (hg : ∀ t, ∃ j, g t j = false) (t : ℕ) (j : Fin 128) :
    (if Ideal.log (A x g t j : EReal) = ⊥ then (0 : EReal) else Ideal.log (A x g t j : EReal))
      = ((if g t j then 0 else Real.log (A x g t j) : ℝ) : EReal) := by
  cases h : g t j with
  | true => simp [A_drop x g t j h, log_none]
  | false =>
    rw [log_pos_coe (A_pos x g hg t j h)]
    simp

end Cert.Crf

end
-- ==== Proof.Weights.lean ====
module

public import proofs.«01_k».proof.Proof.Forward

@[expose] public section

set_option maxRecDepth 16384
noncomputable section

/-!
# The kernel's weights and offsets against the masses

A row of weights `w` and an offset `off` stand for the masses at a position: `w j * exp off` is the mass of tag `j`. Every
weight of a kept tag stays far above the kernel's two guards, so neither guard is ever taken.
-/

namespace Cert.Crf
open Idealize Idealize.ShloMosaic

variable (x : ℕ → Fin 128 → Fin 128 → ℝ) (g : ℕ → Fin 128 → Bool)

/-- The factor of a tag: zero when it is dropped, one when it is kept. -/
def keep (g : ℕ → Fin 128 → Bool) (t : ℕ) (j : Fin 128) : EReal := if g t j then 0 else 1

/-- The weights `w` with offset `o` stand for the masses at position `t`, and no kept weight is below `exp (-c)`. -/
def Fair (c : ℝ) (t : ℕ) (w : Fin 128 → EReal) (off : EReal) : Prop :=
  ∃ (v : Fin 128 → ℝ) (o : ℝ), w = (fun j => (v j : EReal)) ∧ off = (o : EReal) ∧ (∀ j, v j * Real.exp o = A x g t j) ∧
    ∀ j, g t j = false → Real.exp (-c) ≤ v j

/-- Weights that stand for masses are not negative. -/
theorem fair_nonneg {t : ℕ} {v : Fin 128 → ℝ} {o : ℝ} (h : ∀ j, v j * Real.exp o = A x g t j) (j : Fin 128) : 0 ≤ v j := by
  have := A_nonneg x g t j
  rw [← h] at this
  exact nonneg_of_mul_nonneg_left this (Real.exp_pos o)

/-- Real weights carried through one score matrix. -/
theorem us_real (y : Fin 128 → Fin 128 → ℝ) (v : Fin 128 → ℝ) (j : Fin 128) :
    us (fun l j => (y l j : EReal)) (fun l => (v l : EReal)) j = ((∑ l, v l * Real.exp (y l j) : ℝ) : EReal) := by
  unfold us
  simp only [Ideal.exp_coe, ← EReal.coe_mul]
  exact sum_real _ _

/-- The factor of a tag, as a real. -/
theorem keep_real (t : ℕ) (j : Fin 128) : keep g t j = ((if g t j then 0 else 1 : ℝ) : EReal) := by
  unfold keep; split <;> simp

/-- The carried weights, masked, stand for the next masses. -/
theorem carried {t : ℕ} {v : Fin 128 → ℝ} {o : ℝ} (h : ∀ j, v j * Real.exp o = A x g t j) (j : Fin 128) :
    ((∑ l, v l * Real.exp (x (t + 1) l j)) * (if g (t + 1) j then 0 else 1)) * Real.exp o = A x g (t + 1) j := by
  conv_rhs => unfold A
  split
  · simp
  · rw [mul_one, Finset.sum_mul]
    refine Finset.sum_congr rfl fun l _ => ?_
    rw [← h]; ring

/-- A carried weight is at least `exp (-10)` times the least kept weight. -/
theorem carried_ge (hx : ∀ t l j, |x t l j| ≤ 10) {c : ℝ} {t : ℕ} {v : Fin 128 → ℝ} (hv : ∀ l, 0 ≤ v l) (i : Fin 128)
    (hi : Real.exp (-c) ≤ v i) (j : Fin 128) : Real.exp (-(c + 10)) ≤ ∑ l, v l * Real.exp (x (t + 1) l j) := by
  have h1 : Real.exp (-10) ≤ Real.exp (x (t + 1) i j) := Real.exp_le_exp.2 (abs_le.1 (hx _ _ _)).1
  have h2 : Real.exp (-(c + 10)) ≤ v i * Real.exp (x (t + 1) i j) := by
    rw [neg_add, Real.exp_add]
    exact mul_le_mul hi h1 (Real.exp_pos _).le (hv i)
  exact h2.trans (Finset.single_le_sum (f := fun l => v l * Real.exp (x (t + 1) l j))
    (fun l _ => mul_nonneg (hv l) (Real.exp_pos _).le) (Finset.mem_univ i))

/-- Two carried weights differ by a factor of at most `exp 20`. -/
theorem carried_ratio (hx : ∀ t l j, |x t l j| ≤ 10) {t : ℕ} {v : Fin 128 → ℝ} (hv : ∀ l, 0 ≤ v l) (j k : Fin 128) :
    (∑ l, v l * Real.exp (x (t + 1) l j)) * Real.exp (-20) ≤ ∑ l, v l * Real.exp (x (t + 1) l k) := by
  rw [Finset.sum_mul]
  refine Finset.sum_le_sum fun l _ => ?_
  rw [mul_assoc, ← Real.exp_add]
  refine mul_le_mul_of_nonneg_left (Real.exp_le_exp.2 ?_) (hv l)
  have h1 := abs_le.1 (hx (t + 1) l j)
  have h2 := abs_le.1 (hx (t + 1) l k)
  linarith [h1.2, h2.1]

/-- A step without division keeps the weights standing for the masses. -/
theorem fair_uw (hx : ∀ t l j, |x t l j| ≤ 10) (hg : ∀ t, ∃ j, g t j = false) {c : ℝ} {t : ℕ} {w : Fin 128 → EReal} {off : EReal}
    (h : Fair x g c t w off) : Fair x g (c + 10) (t + 1) (uw (fun l j => (x (t + 1) l j : EReal)) (keep g (t + 1)) w) off := by
  obtain ⟨v, o, rfl, rfl, hA, hc⟩ := h
  have hv := fair_nonneg x g hA
  obtain ⟨i, hi⟩ := hg t
  refine ⟨fun j => (∑ l, v l * Real.exp (x (t + 1) l j)) * (if g (t + 1) j then 0 else 1), o, ?_, rfl, carried x g hA, ?_⟩
  · funext j
    unfold uw
    rw [us_real, keep_real, EReal.coe_mul]
  · intro j hj
    simp only [hj]
    simpa using carried_ge x hx hv i (hc i hi) j

/-- `exp (-60)` is not small. -/
theorem exp_ge : (10 : ℝ)⁻¹ ^ 29 ≤ Real.exp (-60) := by
  have h1 : Real.exp (-60) = ((Real.exp (-(1 / 10))) ^ 10) ^ 60 := by
    rw [← Real.exp_nat_mul, ← Real.exp_nat_mul]; norm_num
  have h2 : (9 / 10 : ℝ) ≤ Real.exp (-(1 / 10)) := by linarith [Real.add_one_le_exp (-(1 / 10) : ℝ)]
  have h3 : (1 / 3 : ℝ) ≤ (Real.exp (-(1 / 10))) ^ 10 :=
    le_trans (by norm_num) (pow_le_pow_left₀ (by norm_num) h2 10)
  rw [h1]
  exact le_trans (by norm_num) (pow_le_pow_left₀ (by norm_num) h3 60)

/-- The kernel's smallest divisor is a real below `exp (-60)`. -/
theorem tiny_le : ∃ r : ℝ, tiny = (r : EReal) ∧ 0 < r ∧ r ≤ Real.exp (-60) := by
  refine ⟨_, by unfold tiny; simp [Ideal.ofBits, Ideal.ieee, -EReal.coe_mul]; rfl, by positivity, le_trans ?_ exp_ge⟩
  norm_num

/-- The kernel's smallest last weight is a real below `exp (-20)`. -/
theorem lowest_le : ∃ r : ℝ, lowest = (r : EReal) ∧ 0 < r ∧ r ≤ Real.exp (-20) := by
  refine ⟨_, by unfold lowest; simp [Ideal.ofBits, Ideal.ieee, -EReal.coe_mul]; rfl, by positivity,
    le_trans ?_ (exp_ge.trans (Real.exp_le_exp.2 (by norm_num)))⟩
  norm_num

/-- A step with division keeps the weights standing for the masses, with its logarithm added to the offset. -/
theorem fair_un (hx : ∀ t l j, |x t l j| ≤ 10) (hg : ∀ t, ∃ j, g t j = false) {c : ℝ} (hc50 : c ≤ 50) {t : ℕ} {w : Fin 128 → EReal}
    {off : EReal} (h : Fair x g c t w off) :
    Fair x g 20 (t + 1) (un (fun l j => (x (t + 1) l j : EReal)) (keep g (t + 1)) w)
      (off + Ideal.log (sm (fun l j => (x (t + 1) l j : EReal)) w)) := by
  obtain ⟨v, o, rfl, rfl, hA, hc⟩ := h
  have hv := fair_nonneg x g hA
  obtain ⟨i, hi⟩ := hg t
  obtain ⟨r, hr, hr0, hr60⟩ := tiny_le
  have hus : us (fun l j => (x (t + 1) l j : EReal)) (fun l => (v l : EReal)) = fun j => ((∑ l, v l * Real.exp (x (t + 1) l j) : ℝ) : EReal) :=
    funext fun j => us_real (x (t + 1)) v j
  obtain ⟨j0, -, hj0⟩ := Finset.exists_max_image Finset.univ (fun j => ∑ l, v l * Real.exp (x (t + 1) l j)) ⟨0, Finset.mem_univ _⟩
  set s : Fin 128 → ℝ := fun j => ∑ l, v l * Real.exp (x (t + 1) l j) with hs
  have hs60 : Real.exp (-60) ≤ s j0 := (Real.exp_le_exp.2 (by linarith)).trans (carried_ge x hx hv i (hc i hi) j0)
  have hs0 : 0 < s j0 := (Real.exp_pos _).trans_le hs60
  have hsm : sm (fun l j => (x (t + 1) l j : EReal)) (fun l => (v l : EReal)) = (s j0 : EReal) := by
    unfold sm
    rw [hus, hr]
    have : Finset.univ.fold max ⊥ (fun j => (s j : EReal)) = (s j0 : EReal) := by
      refine le_antisymm (Finset.fold_max_le _ |>.2 ⟨bot_le, fun j hj => EReal.coe_le_coe_iff.2 (hj0 j hj)⟩) ?_
      exact Finset.le_fold_max _ |>.2 (Or.inr ⟨j0, Finset.mem_univ _, le_rfl⟩)
    rw [this]
    exact max_eq_left (EReal.coe_le_coe_iff.2 (hr60.trans hs60))
  refine ⟨fun j => s j * (if g (t + 1) j then 0 else 1) * (1 / s j0), o + Real.log (s j0), ?_, ?_, ?_, ?_⟩
  · funext j
    unfold un
    rw [hsm, Ideal.div_coe hs0.ne', hus, keep_real, ← EReal.coe_mul, ← EReal.coe_mul]
  · rw [hsm, log_pos_coe hs0, EReal.coe_add]
  · intro j
    rw [← carried x g hA j, Real.exp_add, Real.exp_log hs0]
    field_simp
    exact mul_comm _ _
  · intro j hj
    simp only [hj]
    have h := carried_ratio x hx (t := t) hv j0 j
    rw [mul_one_div, le_div_iff₀ hs0]
    simpa [mul_comm] using h

/-- A block's last three steps. -/
theorem fair_block (hx : ∀ t l j, |x t l j| ≤ 10) (hg : ∀ t, ∃ j, g t j = false) {c : ℝ} (hc : c ≤ 30) {t : ℕ} {w : Fin 128 → EReal}
    {off : EReal} {X : Fin 4 → Fin 128 → Fin 128 → EReal} {Q : Fin 4 → Fin 128 → EReal}
    (hX : ∀ k : Fin 4, 1 ≤ k.val → X k = fun l j => (x (t + k) l j : EReal)) (hQ : ∀ k : Fin 4, 1 ≤ k.val → Q k = keep g (t + k))
    (h : Fair x g c t w off) : Fair x g 20 (t + 3) (bw X Q w) (off + bo X Q w) := by
  have h1 := fair_uw x g hx hg h
  have h2 := fair_uw x g hx hg h1
  have h3 := fair_un x g hx hg (by linarith) h2
  unfold bw bo tail3
  rw [hX 1 (by decide), hX 2 (by decide), hX 3 (by decide), hQ 1 (by decide), hQ 2 (by decide), hQ 3 (by decide)]
  exact h3

/-- A whole block's four steps. -/
theorem fair_four (hx : ∀ t l j, |x t l j| ≤ 10) (hg : ∀ t, ∃ j, g t j = false) {t : ℕ} {w : Fin 128 → EReal}
    {off : EReal} {X : Fin 4 → Fin 128 → Fin 128 → EReal} {Q : Fin 4 → Fin 128 → EReal}
    (hX : ∀ k : Fin 4, X k = fun l j => (x (t + 1 + k) l j : EReal)) (hQ : ∀ k : Fin 4, Q k = keep g (t + 1 + k))
    (h : Fair x g 20 t w off) : Fair x g 20 (t + 4) (bw X Q (uw (X 0) (Q 0) w)) (off + bo X Q (uw (X 0) (Q 0) w)) := by
  have h1 := fair_uw x g hx hg h
  have h0 : uw (X 0) (Q 0) w = uw (fun l j => (x (t + 1) l j : EReal)) (keep g (t + 1)) w := by rw [hX 0, hQ 0]; rfl
  rw [h0]
  exact fair_block x g hx hg (by norm_num) (fun k _ => hX k) (fun k _ => hQ k) h1

/-- The last read: the offset plus the logarithm of the last weight is the log mass, zero for a dropped tag. -/
theorem fair_end {t : ℕ} {w : Fin 128 → EReal} {off : EReal} (h : Fair x g 20 t w off) (j : Fin 128) :
    (off + Ideal.log (max (w j) lowest)) * keep g t j = ((if g t j then 0 else Real.log (A x g t j) : ℝ) : EReal) := by
  obtain ⟨v, o, rfl, rfl, hA, hc⟩ := h
  obtain ⟨r, hr, hr0, hr20⟩ := lowest_le
  rw [hr]
  unfold keep
  cases hj : g t j with
  | true => simp
  | false =>
    have h1 := hc j hj
    have h0 : 0 < v j := (Real.exp_pos _).trans_le h1
    simp only []
    rw [max_eq_left (EReal.coe_le_coe_iff.2 (hr20.trans h1)), log_pos_coe h0, ← EReal.coe_add, ← hA j,
      Real.log_mul h0.ne' (Real.exp_pos _).ne', Real.log_exp]
    simp [add_comm]

/-- The first weights, from an offset that is the largest kept score. -/
theorem fair_first (hx : ∀ t l j, |x t l j| ≤ 10) {o : ℝ} (ho : |o| ≤ 10) :
    Fair x g 20 0 (fun j => keep g 0 j * Ideal.exp ((x 0 126 j : EReal) - (o : EReal))) (o : EReal) := by
  refine ⟨fun j => (if g 0 j then 0 else 1) * Real.exp (x 0 126 j - o), o, ?_, rfl, ?_, ?_⟩
  · funext j
    rw [keep_real, ← EReal.coe_sub, Ideal.exp_coe, EReal.coe_mul]
  · intro j
    unfold A
    dsimp only
    split
    · simp
    · rw [one_mul, ← Real.exp_add]; congr 1; ring
  · intro j hj
    simp only [hj]
    have h1 := abs_le.1 (hx 0 126 j)
    have h2 := abs_le.1 ho
    simpa using (by linarith [h1.1, h2.2] : o ≤ x 0 126 j + 20)

/-- The word of one half. -/
theorem half_word : Ideal.ofBits .f32 0x3F000000#32 = ((1 / 2 : ℝ) : EReal) := by
  simp [Ideal.ofBits, Ideal.ieee, -EReal.coe_mul]; norm_num

/-- The word of the kernel's stand-in for a dropped score is far below every score. -/
theorem stand_word : ∃ r : ℝ, Ideal.ofBits .f32 0xC7C35000#32 = (r : EReal) ∧ r ≤ -10 := by
  refine ⟨-100000, ?_, by norm_num⟩
  simp [Ideal.ofBits, Ideal.ieee, -EReal.coe_mul, -EReal.coe_neg]; norm_num

/-- A largest entry of reals that are at most ten, one of them at least minus ten. -/
theorem fold_bound (f : Fin 128 → ℝ) (h : ∀ j, f j ≤ 10) (i : Fin 128) (hi : -10 ≤ f i) :
    ∃ o : ℝ, Finset.univ.fold max ⊥ (fun j => (f j : EReal)) = (o : EReal) ∧ |o| ≤ 10 := by
  obtain ⟨j0, -, hj0⟩ := Finset.exists_max_image Finset.univ f ⟨0, Finset.mem_univ _⟩
  refine ⟨f j0, ?_, abs_le.2 ⟨hi.trans (hj0 i (Finset.mem_univ _)), h j0⟩⟩
  refine le_antisymm (Finset.fold_max_le _ |>.2 ⟨bot_le, fun j hj => EReal.coe_le_coe_iff.2 (hj0 j hj)⟩) ?_
  exact Finset.le_fold_max _ |>.2 (Or.inr ⟨j0, Finset.mem_univ _, le_rfl⟩)

/-- Row 0's first weights and offset, where no tag is dropped. -/
theorem fair_iw0 (hx : ∀ t l j, |x t l j| ≤ 10) (q : Fin 128 → EReal) (hg0 : ∀ j, g 0 j = false) :
    Fair x g 20 0 (iw (fun j => (x 0 126 j : EReal)) q 0) (io (fun j => (x 0 126 j : EReal)) q 0) := by
  obtain ⟨o, ho, hb⟩ := fold_bound (fun j => x 0 126 j) (fun j => (abs_le.1 (hx _ _ _)).2) 0 (abs_le.1 (hx _ _ _)).1
  have hio : io (fun j => (x 0 126 j : EReal)) q 0 = (o : EReal) := by
    unfold io; simpa using ho
  have := fair_first x g hx hb
  unfold iw
  simp only [hio, if_true]
  simpa [keep, hg0] using this

/-- Row 1's first weights and offset. -/
theorem fair_iw1 (hx : ∀ t l j, |x t l j| ≤ 10) (hg : ∀ t, ∃ j, g t j = false) :
    Fair x g 20 0 (iw (fun j => (x 0 126 j : EReal)) (keep g 0) 1) (io (fun j => (x 0 126 j : EReal)) (keep g 0) 1) := by
  obtain ⟨i, hi⟩ := hg 0
  obtain ⟨r, hr, hr10⟩ := stand_word
  obtain ⟨o, ho, hb⟩ := fold_bound (fun j => if g 0 j then r else x 0 126 j)
    (fun j => by
      split
      · linarith
      · exact (abs_le.1 (hx _ _ _)).2) i
    (by simp only [hi]; exact (abs_le.1 (hx _ _ _)).1)
  have hio : io (fun j => (x 0 126 j : EReal)) (keep g 0) 1 = (o : EReal) := by
    unfold io
    rw [← ho]
    congr 1
    funext j
    rw [half_word, hr, keep_real]
    cases g 0 j <;> simp [EReal.coe_lt_coe_iff, -EReal.coe_zero, -EReal.coe_one] <;> norm_num
  have := fair_first x g hx hb
  unfold iw
  rw [hio]
  simpa using this

end Cert.Crf

end
-- ==== Proof.Gate.lean ====
module

public import proofs.«01_k».proof.Proof.Weights

@[expose] public section

set_option maxRecDepth 16384
noncomputable section

/-!
# The two rows' data, read off the argument arrays
-/

namespace Cert.Crf
open Idealize Idealize.ShloMosaic

/-- Sequence `b`'s scores, position by position. -/
def sc (X : (⟨4, ![16, 64, 128, 128]⟩ : Shape).Idx → EReal) (b : Fin 16) : ℕ → Fin 128 → Fin 128 → EReal :=
  fun t l j => X (ix4 b (Fin.ofNat 64 t) l j)

/-- Sequence `b`'s scores as reals. -/
def scr (X : (⟨4, ![16, 64, 128, 128]⟩ : Shape).Idx → EReal) (b : Fin 16) : ℕ → Fin 128 → Fin 128 → ℝ :=
  fun t l j => (sc X b t l j).toReal

/-- Which tags row `r` of sequence `b` drops: none in row 0, the target's in row 1. -/
def gate (T : (⟨3, ![16, 64, 128]⟩ : Shape).Idx → BitVec 1) (b : Fin 16) (r : Fin 2) : ℕ → Fin 128 → Bool :=
  fun t j => decide (r = 1) && decide (T (ix3 b (Fin.ofNat 64 t) j) = 1#1)

/-- The domain: every score a real within ten of zero, and a tag outside the target at every position. -/
def Tame (X : (⟨4, ![16, 64, 128, 128]⟩ : Shape).Idx → EReal) (T : (⟨3, ![16, 64, 128]⟩ : Shape).Idx → BitVec 1) : Prop :=
  (∀ i, ∃ r : ℝ, X i = (r : EReal) ∧ |r| ≤ 10) ∧ ∀ (b : Fin 16) (t : Fin 64), ∃ j, T (ix3 b t j) = 0#1

/-- On the domain the scores are their reals. -/
theorem sc_real {X T} (h : Tame X T) (b : Fin 16) : sc X b = fun t l j => (scr X b t l j : EReal) := by
  funext t l j
  obtain ⟨r, hr, -⟩ := h.1 (ix4 b (Fin.ofNat 64 t) l j)
  unfold scr sc
  rw [hr, EReal.toReal_coe]

/-- On the domain the scores are within ten of zero. -/
theorem scr_le {X T} (h : Tame X T) (b : Fin 16) (t : ℕ) (l j : Fin 128) : |scr X b t l j| ≤ 10 := by
  obtain ⟨r, hr, hb⟩ := h.1 (ix4 b (Fin.ofNat 64 t) l j)
  unfold scr sc
  rw [hr, EReal.toReal_coe]
  exact hb

/-- On the domain every row keeps a tag at every position. -/
theorem gate_keeps {X T} (h : Tame X T) (b : Fin 16) (r : Fin 2) (t : ℕ) : ∃ j, gate T b r t j = false := by
  obtain ⟨j, hj⟩ := h.2 b (Fin.ofNat 64 t)
  exact ⟨j, by unfold gate; rw [hj]; simp⟩

/-- Row 0 drops nothing. -/
theorem gate_zero (T) (b : Fin 16) (t : ℕ) (j : Fin 128) : gate T b 0 t j = false := by
  unfold gate; simp

/-- The factor the kernel reads: one in row 0, one less the target's indicator in row 1. -/
theorem factor (T : (⟨3, ![16, 64, 128]⟩ : Shape).Idx → BitVec 1) (b : Fin 16) (r : Fin 2) (t : ℕ) (p : Fin 64) (hp : p.val = t) (j : Fin 128) :
    (if r.val < 1 then (1 : EReal) else 1 - FloatOps.uitofp (F := Ideal) .f32 (T (ix3 b p j))) = keep (gate T b r) t j := by
  have he : Fin.ofNat 64 t = p := by apply Fin.ext; simp [← hp, Nat.mod_eq_of_lt p.isLt]
  unfold keep gate
  rw [he]
  generalize T (ix3 b p j) = y
  have hy : y = 0#1 ∨ y = 1#1 := by revert y; decide
  have hr : r = 0 ∨ r = 1 := by revert r; decide
  have h1 : (1 : EReal) - 1 = 0 := by
    rw [← EReal.coe_one, ← EReal.coe_sub]; simp
  have h2 : FloatOps.uitofp (F := Ideal) .f32 (0#1) = (0 : EReal) := by
    change (((0#1 : BitVec 1).toNat : ℝ) : EReal) = 0; simp
  have h3 : FloatOps.uitofp (F := Ideal) .f32 (1#1) = (1 : EReal) := by
    change (((1#1 : BitVec 1).toNat : ℝ) : EReal) = 1; simp
  rcases hr with rfl | rfl <;> rcases hy with rfl | rfl <;> simp [h1, h2, h3]

end Cert.Crf

end
-- ==== Proof.KernelStep.lean ====
module

public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.Chain

@[expose] public section

set_option maxRecDepth 16384
noncomputable section

namespace Cert.KernelIdeal.Crf

open Cert.KernelIdeal Cert.KernelIdeal.Gen Idealize.ShloMosaic Idealize.ShloMosaic.TcCoe Idealize.SL.Sem
open Idealize.ShloMosaic.Pipeline (Dat)
open Cert.Crf

variable (c : Dev nD) (i : grid0.Coords) (arg1 : Memref sig .tc .vmem S16x4x128x128 .f32) (harg1 : arg1.IsWhole) (arg2 : Memref sig .tc .vmem S4x16x2x128 .f32) (harg2 : arg2.IsWhole) (arg3 : Memref sig .tc .vmem S1x1x1 .f32) (harg3 : arg3.IsWhole) (arg4 : Memref sig .tc .vmem S16x2x128 .f32) (harg4 : arg4.IsWhole) (arg5 : Memref sig .tc .vmem S16x2 .f32) (harg5 : arg5.IsWhole)
    (x0 : FVec Ideal S16x4x128x128 .f32) (x1 : FVec Ideal S4x16x2x128 .f32) (xs0 : FVec Ideal S16x2x128 .f32) (xs1 : FVec Ideal S16x2 .f32)

/-- The last payload: the sum over the sequences of row 0's value less row 1's, masked. -/
theorem fin_at (v67 : FVec Ideal S16x2x1 .f32) (v69 : FVec Ideal S16x2 .f32) (v74 : FVec Ideal S1x16x1x1 .f32) :
    k0_pay3 (F := Ideal) v67 v69 v74 (ix3 0 0 0)
      = ∑ b : Fin 16, ((v69 (ix2 b 0) + Ideal.log (max (v67 (ix3 b 0 0)) lowest))
          - (v69 (ix2 b 1) + Ideal.log (max (v67 (ix3 b 1 0)) lowest)) * v74 (ix4 0 b 0 0)) := by
  pointwise [k0_pay3]
  rfl

/-- The score matrices of sequence `b` in a block. -/
def xs (x0 : FVec Ideal S16x4x128x128 .f32) (b : Fin 16) : Fin 4 → Fin 128 → Fin 128 → EReal := fun k l j => x0 (ix4 b k l j)

/-- The mask rows of sequence `b`, row `r`, in a block. -/
def qs (x1 : FVec Ideal S4x16x2x128 .f32) (b : Fin 16) (r : Fin 2) : Fin 4 → Fin 128 → EReal := fun k j => x1 (ix4 k b r j)

/-- The weights of sequence `b`, row `r`. -/
def ws (w : FVec Ideal S16x2x128 .f32) (b : Fin 16) (r : Fin 2) : Fin 128 → EReal := fun j => w (ix3 b r j)

/-- The weights a point of case B leaves. -/
theorem sB_0 (hc0 : ¬cond0_0 i) (hc1 : cond0_1 i) (hc2 : ¬cond0_2 i) (b : Fin 16) (r : Fin 2) (j : Fin 128) :
    sout0_B_0 (F := Ideal) c i arg1 harg1 arg2 harg2 arg3 harg3 arg4 harg4 arg5 harg5 hc0 hc1 hc2 x0 x1 xs0 xs1 (ix3 b r j)
      = bw (xs x0 b) (qs x1 b r) (uw (xs x0 b 0) (qs x1 b r 0) (ws xs0 b r)) j := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]; rfl

/-- The offset a point of case B leaves. -/
theorem sB_1 (hc0 : ¬cond0_0 i) (hc1 : cond0_1 i) (hc2 : ¬cond0_2 i) (b : Fin 16) (r : Fin 2) :
    sout0_B_1 (F := Ideal) c i arg1 harg1 arg2 harg2 arg3 harg3 arg4 harg4 arg5 harg5 hc0 hc1 hc2 x0 x1 xs0 xs1 (ix2 b r)
      = xs1 (ix2 b r) + bo (xs x0 b) (qs x1 b r) (uw (xs x0 b 0) (qs x1 b r 0) (ws xs0 b r)) := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]; rfl

/-- The weights a point of case C leaves. -/
theorem sC_0 (hc0 : ¬cond0_0 i) (hc1 : cond0_1 i) (hc2 : cond0_2 i) (b : Fin 16) (r : Fin 2) (j : Fin 128) :
    sout0_C_0 (F := Ideal) c i arg1 harg1 arg2 harg2 arg3 harg3 arg4 harg4 arg5 harg5 hc0 hc1 hc2 x0 x1 xs0 xs1 (ix3 b r j)
      = bw (xs x0 b) (qs x1 b r) (uw (xs x0 b 0) (qs x1 b r 0) (ws xs0 b r)) j := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]; rfl

/-- The offset a point of case C leaves. -/
theorem sC_1 (hc0 : ¬cond0_0 i) (hc1 : cond0_1 i) (hc2 : cond0_2 i) (b : Fin 16) (r : Fin 2) :
    sout0_C_1 (F := Ideal) c i arg1 harg1 arg2 harg2 arg3 harg3 arg4 harg4 arg5 harg5 hc0 hc1 hc2 x0 x1 xs0 xs1 (ix2 b r)
      = xs1 (ix2 b r) + bo (xs x0 b) (qs x1 b r) (uw (xs x0 b 0) (qs x1 b r 0) (ws xs0 b r)) := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]; rfl

/-- The weights the first point leaves. -/
theorem sA_0 (hc0 : cond0_0 i) (hc1 : ¬cond0_1 i) (hc2 : ¬cond0_2 i) (b : Fin 16) (r : Fin 2) (j : Fin 128) :
    sout0_A_0 (F := Ideal) c i arg1 harg1 arg2 harg2 arg3 harg3 arg4 harg4 arg5 harg5 hc0 hc1 hc2 x0 x1 (ix3 b r j)
      = bw (xs x0 b) (qs x1 b r) (iw (xs x0 b 0 126) (qs x1 b 1 0) r) j := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]
  by_cases h : (r : ℕ) < 1
  · have hr : r = 0 := Fin.ext (by omega)
    subst hr
    rfl
  · have hr : r = 1 := Fin.ext (by omega)
    subst hr
    rfl

/-- The offset the first point leaves. -/
theorem sA_1 (hc0 : cond0_0 i) (hc1 : ¬cond0_1 i) (hc2 : ¬cond0_2 i) (b : Fin 16) (r : Fin 2) :
    sout0_A_1 (F := Ideal) c i arg1 harg1 arg2 harg2 arg3 harg3 arg4 harg4 arg5 harg5 hc0 hc1 hc2 x0 x1 (ix2 b r)
      = io (xs x0 b 0 126) (qs x1 b 1 0) r + bo (xs x0 b) (qs x1 b r) (iw (xs x0 b 0 126) (qs x1 b 1 0) r) := by
  frame_out
  pointwise [k0_pay1, k0_pay2, k0_pay3, k0_pay4, k0_pay5, k0_pay6, k0_pay7, k0_pay8, k0_pay9, k0_pay10, k0_pay11, k0_pay12, k0_pay13, k0_pay14, k0_pay15]
  rw [ninf]
  by_cases h : (r : ℕ) < 1
  · have hr : r = 0 := Fin.ext (by omega)
    subst hr
    rfl
  · have hr : r = 1 := Fin.ext (by omega)
    subst hr
    rfl

/-- The result the last point writes. -/
theorem oC (hc0 : ¬cond0_0 i) (hc1 : cond0_1 i) (hc2 : cond0_2 i) :
    out0_C_2 (F := Ideal) c i arg1 harg1 arg2 harg2 arg3 harg3 arg4 harg4 arg5 harg5 hc0 hc1 hc2 x0 x1 xs0 xs1 (ix3 0 0 0)
      = ∑ b : Fin 16, (((xs1 (ix2 b 0) + bo (xs x0 b) (qs x1 b 0) (uw (xs x0 b 0) (qs x1 b 0 0) (ws xs0 b 0)))
            + Ideal.log (max (bw (xs x0 b) (qs x1 b 0) (uw (xs x0 b 0) (qs x1 b 0 0) (ws xs0 b 0)) 127) lowest))
          - ((xs1 (ix2 b 1) + bo (xs x0 b) (qs x1 b 1) (uw (xs x0 b 0) (qs x1 b 1 0) (ws xs0 b 1)))
            + Ideal.log (max (bw (xs x0 b) (qs x1 b 1) (uw (xs x0 b 0) (qs x1 b 1 0) (ws xs0 b 1)) 127) lowest)) * qs x1 b 1 3 127) := by
  frame_out
  rw [View.readCov_fill _ _ _ _ _ (by decide), fin_at]
  refine Finset.sum_congr rfl fun b _ => ?_
  pointwise [k0_pay1, k0_pay2, k0_pay3, k0_pay4, k0_pay5, k0_pay6, k0_pay7, k0_pay8, k0_pay9, k0_pay10, k0_pay11, k0_pay12, k0_pay13, k0_pay14, k0_pay15]
  rw [ninf]
  rfl

end Cert.KernelIdeal.Crf

end
-- ==== Proof.KernelBlocks.lean ====
module

public import proofs.«01_k».proof.Proof.Gen.KernelIdeal.Frame
public import Idealize.ShloMosaic.Lib.Pointwise
public import Idealize.ShloMosaic.Lib.Pipeline.ValueKit
public import proofs.«01_k».proof.Proof.Gate
public import proofs.«01_k».proof.Proof.KernelStep

@[expose] public section

set_option maxRecDepth 16384
noncomputable section

/-!
# The kernel's input blocks at an index
-/

namespace Cert.KernelIdeal.Crf

open Cert.KernelIdeal Cert.KernelIdeal.Gen Idealize.ShloMosaic Idealize.ShloMosaic.TcCoe Idealize.SL.Sem
open Cert.Crf

variable (m : (ℓ : Loc nD τ sig) → Buf (Elt Ideal) ℓ)

/-- Which block of the scores each grid point reads. -/
theorem idx0 : ∀ t : Fin cfg0.N, win0_0.index t = ![0, t.val, 0, 0] := (by decide +kernel : ∀ t : Fin grid0.N, _)

/-- Which block of the factors each grid point reads. -/
theorem idx1 : ∀ t : Fin cfg0.N, win0_1.index t = ![t.val, 0, 0, 0] := (by decide +kernel : ∀ t : Fin grid0.N, _)

/-- The scores a grid point reads: those of its four positions. -/
theorem blk0 (c : Dev nD) (t : Fin cfg0.N) (b : Fin 16) (k : Fin 4) (l j : Fin 128) (p : Fin 64) (hp : p.val = 4 * t.val + k.val) :
    iblk m c 0 t (ix4 b k l j) = m ((c : Thread nD τ).loc main_arg0) (ix4 b p l j) := by
  blk_ext [iblk, V, idx0 t]

/-- The factors at an index: one in row 0, one less the target's indicator in row 1. -/
theorem v7 (c : Dev nD) (p : Fin 64) (b : Fin 16) (r : Fin 2) (j : Fin 128) :
    V m c main_v7 (ix4 p b r j) = keep (gate (m ((c : Thread nD τ).loc main_arg1)) b r) p j := by
  entry_read
  pointwise
  exact factor (m ((c : Thread nD τ).loc main_arg1)) b r p p rfl j

/-- The factors a grid point reads: those of its four positions. -/
theorem blk1 (c : Dev nD) (t : Fin cfg0.N) (b : Fin 16) (k : Fin 4) (r : Fin 2) (j : Fin 128) (p : Fin 64) (hp : p.val = 4 * t.val + k.val) :
    iblk m c 1 t (ix4 k b r j) = V m c main_v7 (ix4 p b r j) := by
  blk_ext [iblk, idx1 t]

/-- The score matrices of a grid point. -/
theorem xs_blk (c : Dev nD) (t : Fin cfg0.N) (b : Fin 16) (k : Fin 4) :
    xs (iblk m c 0 t) b k = sc (m ((c : Thread nD τ).loc main_arg0)) b (4 * t.val + k) := by
  have hN : t.val < 16 := N_0 ▸ t.isLt
  funext l j
  unfold xs sc
  exact blk0 m c t b k l j _ (by simp; omega)

/-- The factors of a grid point's rows. -/
theorem qs_blk (c : Dev nD) (t : Fin cfg0.N) (b : Fin 16) (r : Fin 2) (k : Fin 4) :
    qs (iblk m c 1 t) b r k = keep (gate (m ((c : Thread nD τ).loc main_arg1)) b r) (4 * t.val + k) := by
  have hN : t.val < 16 := N_0 ▸ t.isLt
  funext j
  unfold qs
  exact (blk1 m c t b k r j ⟨4 * t.val + k.val, by omega⟩ rfl).trans (v7 m c _ b r j)

end Cert.KernelIdeal.Crf

end
-- ==== Proof.KernelFold.lean ====
module

public import proofs.«01_k».proof.Proof.KernelBlocks
public import proofs.«01_k».proof.Proof.Gen.KernelIdeal.Value

@[expose] public section

set_option maxRecDepth 16384
noncomputable section

/-!
# The kernel over its sixteen points

After every point the two rows' weights and offsets stand for the masses; the last point's result is their difference.
-/

namespace Cert.KernelIdeal.Crf

open Cert.KernelIdeal Cert.KernelIdeal.Gen Cert.KernelIdeal.Value Idealize.ShloMosaic Idealize.ShloMosaic.TcCoe Idealize.SL.Sem
open Cert.Crf

variable (m : (ℓ : Loc nD τ sig) → Buf (Elt Ideal) ℓ) (c : Dev nD)

/-- The scores. -/
abbrev X : S16x64x128x128.Idx → EReal := m ((c : Thread nD τ).loc main_arg0)
/-- The target. -/
abbrev T : S16x64x128.Idx → BitVec 1 := m ((c : Thread nD τ).loc main_arg1)

/-- Equal weights stand for the same masses. -/
theorem fair_w {x : ℕ → Fin 128 → Fin 128 → ℝ} {g : ℕ → Fin 128 → Bool} {d : ℝ} {t : ℕ} {w v : Fin 128 → EReal} {o : EReal}
    (h : Fair x g d t w o) (e : v = w) : Fair x g d t v o := e ▸ h

/-- What stands after a point: the row's weights and offset stand for the masses at the point's last position. -/
def After (n : ℕ) (w : FVec Ideal S16x2x128 .f32) (o : FVec Ideal S16x2 .f32) : Prop :=
  ∀ (b : Fin 16) (r : Fin 2), Fair (scr (X m c) b) (gate (T m c) b r) 20 (4 * n + 3) (ws w b r) (o (ix2 b r))

/-- The score matrices of a grid point as reals. -/
theorem xs_real (h : Tame (X m c) (T m c)) (t : Fin cfg0.N) (b : Fin 16) (k : Fin 4) :
    xs (iblk m c 0 t) b k = fun l j => (scr (X m c) b (4 * t.val + k) l j : EReal) := by
  rw [xs_blk m c t b k, sc_real h b]

/-- A later block's step on the rows. -/
theorem next (h : Tame (X m c) (T m c)) (t : Fin cfg0.N) (ht : 1 ≤ t.val) (w : FVec Ideal S16x2x128 .f32) (o : FVec Ideal S16x2 .f32)
    (ha : After m c (t.val - 1) w o) (b : Fin 16) (r : Fin 2) :
    Fair (scr (X m c) b) (gate (T m c) b r) 20 (4 * t.val + 3)
      (bw (xs (iblk m c 0 t) b) (qs (iblk m c 1 t) b r) (uw (xs (iblk m c 0 t) b 0) (qs (iblk m c 1 t) b r 0) (ws w b r)))
      (o (ix2 b r) + bo (xs (iblk m c 0 t) b) (qs (iblk m c 1 t) b r) (uw (xs (iblk m c 0 t) b 0) (qs (iblk m c 1 t) b r 0) (ws w b r))) := by
  have e1 : 4 * (t.val - 1) + 3 + 1 = 4 * t.val := by omega
  have e4 : 4 * t.val + 3 = 4 * (t.val - 1) + 3 + 4 := by omega
  rw [e4]
  exact fair_four _ _ (scr_le h b) (gate_keeps h b r) (fun k => by rw [e1, xs_real m c h t b k])
    (fun k => by rw [e1, qs_blk m c t b r k]) (ha b r)

/-- The first block's rows. -/
theorem first (h : Tame (X m c) (T m c)) (t : Fin cfg0.N) (ht : t.val = 0) (b : Fin 16) (r : Fin 2) :
    Fair (scr (X m c) b) (gate (T m c) b r) 20 (4 * t.val + 3)
      (bw (xs (iblk m c 0 t) b) (qs (iblk m c 1 t) b r) (iw (xs (iblk m c 0 t) b 0 126) (qs (iblk m c 1 t) b 1 0) r))
      (io (xs (iblk m c 0 t) b 0 126) (qs (iblk m c 1 t) b 1 0) r
        + bo (xs (iblk m c 0 t) b) (qs (iblk m c 1 t) b r) (iw (xs (iblk m c 0 t) b 0 126) (qs (iblk m c 1 t) b 1 0) r)) := by
  have e0 : 4 * t.val + ((0 : Fin 4) : ℕ) = 0 := by rw [ht]; rfl
  have hx : xs (iblk m c 0 t) b 0 126 = fun j => (scr (X m c) b 0 126 j : EReal) := by rw [xs_real m c h t b 0, e0]
  have hq : qs (iblk m c 1 t) b 1 0 = keep (gate (T m c) b 1) 0 := by rw [qs_blk m c t b 1 0, e0]
  have hf : Fair (scr (X m c) b) (gate (T m c) b r) 20 0 (iw (xs (iblk m c 0 t) b 0 126) (qs (iblk m c 1 t) b 1 0) r)
      (io (xs (iblk m c 0 t) b 0 126) (qs (iblk m c 1 t) b 1 0) r) := by
    rw [hx, hq]
    have hr : r = 0 ∨ r = 1 := by revert r; decide
    rcases hr with rfl | rfl
    · exact fair_iw0 _ _ (scr_le h b) _ (gate_zero (T m c) b 0)
    · exact fair_iw1 _ _ (scr_le h b) (gate_keeps h b 1)
  have e : 4 * t.val = 0 := by omega
  rw [e, zero_add]
  have := fair_block _ _ (scr_le h b) (gate_keeps h b r) (by norm_num : (20 : ℝ) ≤ 30) (t := 0)
    (X := xs (iblk m c 0 t) b) (Q := qs (iblk m c 1 t) b r)
    (fun k _ => by rw [xs_real m c h t b k, e]) (fun k _ => by rw [qs_blk m c t b r k, e]) hf
  simpa using this

/-- After the first point. -/
theorem after_A (h : Tame (X m c) (T m c)) (t : Fin cfg0.N) (ht : t.val = 0) :
    After m c t.val (outsAt0 m c t.val t.isLt).2.1 (outsAt0 m c t.val t.isLt).2.2 := by
  intro b r
  rw [outsAt0_A m c t (by omega) (by omega) (by omega)]
  dsimp only
  rw [sA_1]
  exact fair_w (first m c h t ht b r) (funext fun j => sA_0 ..)

/-- After a later point, from the point before. -/
theorem after_BC (h : Tame (X m c) (T m c)) (t : Fin cfg0.N) (ht : 1 ≤ t.val)
    (ih : After m c (t.val - 1) (outsAt0 m c (t.val - 1) (Nat.lt_of_le_of_lt (Nat.sub_le _ _) t.isLt)).2.1
      (outsAt0 m c (t.val - 1) (Nat.lt_of_le_of_lt (Nat.sub_le _ _) t.isLt)).2.2) :
    After m c t.val (outsAt0 m c t.val t.isLt).2.1 (outsAt0 m c t.val t.isLt).2.2 := by
  have hN : t.val < 16 := N_0 ▸ t.isLt
  intro b r
  by_cases h15 : t.val % 16 = 15
  · rw [outsAt0_C m c t (by omega) ht h15]
    dsimp only
    rw [sC_1]
    exact fair_w (next m c h t ht _ _ ih b r) (funext fun j => sC_0 ..)
  · rw [outsAt0_B m c t (by omega) ht h15]
    dsimp only
    rw [sB_1]
    exact fair_w (next m c h t ht _ _ ih b r) (funext fun j => sB_0 ..)

/-- After every point the weights and offsets stand for the masses. -/
theorem after_all (h : Tame (X m c) (T m c)) : ∀ (n : ℕ) (hn : n < cfg0.N), After m c n (outsAt0 m c n hn).2.1 (outsAt0 m c n hn).2.2
  | 0, hn => after_A m c h ⟨0, hn⟩ rfl
  | n + 1, hn => after_BC m c h ⟨n + 1, hn⟩ (Nat.le_add_left _ _) (after_all h n (Nat.lt_of_succ_lt hn))

/-- The last row read: zero for a dropped tag, the log mass otherwise. -/
def last (b : Fin 16) (r : Fin 2) : ℝ :=
  if gate (T m c) b r 63 127 then 0 else Real.log (A (scr (X m c) b) (gate (T m c) b r) 63 127)

/-- What the last point puts out: the sum over the sequences of the two rows' difference. -/
theorem out_last (h : Tame (X m c) (T m c)) (t : Fin cfg0.N) (ht : t.val = 15) :
    (outsAt0 m c t.val t.isLt).1 (ix3 0 0 0) = ((∑ b : Fin 16, (last m c b 0 - last m c b 1) : ℝ) : EReal) := by
  rw [outsAt0_C m c t (by omega) (by omega) (by omega)]
  dsimp only
  rw [oC, ← sum_real]
  refine Finset.sum_congr rfl fun b _ => ?_
  have ih := after_all m c h (t.val - 1) (Nat.lt_of_le_of_lt (Nat.sub_le _ _) t.isLt)
  have e63 : 4 * t.val + 3 = 63 := by omega
  have hr : ∀ r, _ := fun r => fair_end _ _ (next m c h t (by omega) _ _ ih b r) 127
  have h0 := hr 0
  have h1 := hr 1
  rw [e63] at h0 h1
  have k0 : keep (gate (T m c) b 0) 63 127 = 1 := by unfold keep; rw [gate_zero]; rfl
  have k1 : qs (iblk m c 1 t) b 1 3 127 = keep (gate (T m c) b 1) 63 127 := by
    rw [qs_blk m c t b 1 3]; exact congrArg (fun n => keep (gate (T m c) b 1) n 127) e63
  rw [k0, mul_one] at h0
  rw [h0, k1, h1, EReal.coe_sub]
  rfl

/-- The kernel's result. -/
theorem G2_eq (h : Tame (X m c) (T m c)) :
    G2 m c (ix3 0 0 0) = ((∑ b : Fin 16, (last m c b 0 - last m c b 1) : ℝ) : EReal) := by
  have hN : 15 < cfg0.N := lt_of_lt_of_eq (by decide) N_0.symm
  obtain ⟨t, ht⟩ : ∃ t : Fin cfg0.N, t.val = 15 := ⟨⟨15, hN⟩, rfl⟩
  have key := out_last m c h t ht
  rw [outsAt0_sweep m c t.val t.isLt, fold0_congr m c _ _ _ _ ht] at key
  rw [G2_last]
  exact key

end Cert.KernelIdeal.Crf

end
-- ==== Proof.RefStep.lean ====
module

public import proofs.«01_k».proof.Proof.Gen.ReferenceIdeal.Run
public import Idealize.ShloMosaic.Lib.Pointwise
public import Idealize.ShloMosaic.Lib.DynamicIndex
public import proofs.«01_k».proof.Proof.Chain

@[expose] public section

set_option maxRecDepth 16384
noncomputable section

namespace Cert.ReferenceIdeal.Crf

open Cert.ReferenceIdeal Cert.ReferenceIdeal.Gen Cert.ReferenceIdeal.Value Idealize.ShloMosaic Idealize.ShloMosaic.TcCoe Idealize.SL.Sem
open Cert.Crf

/-- The largest score of a move into each tag. -/
def mx (x : FVec Ideal S16x128x128 .f32) (p : FVec Ideal S16x128 .f32) : FVec Ideal S16x1x128 .f32 :=
  broadcastInDim S16x1x128 ![0, 2] bcast_S16x128_S16x1x128_0_2 (Host.reduce FloatOps.maximumf (addf x (broadcastInDim S16x128x128 ![0, 1, 2] bcast_S16x128x1_S16x128x128_0_1_2 (broadcastInDim S16x128x1 ![0, 1] bcast_S16x128_S16x128x1_0_1 p))) (constant S_ .f32 0xFF800000#32) reducesTo_S16x128x128_S16x128_d1 h_S_)

/-- The logarithm of the sum of the exponentials of the scores of the moves into each tag, as the reference spells it. -/
def LSE (x : FVec Ideal S16x128x128 .f32) (p : FVec Ideal S16x128 .f32) : FVec Ideal S16x128 .f32 :=
  addf (shapeCast S16x128 (mx x p) shapeCasts_S16x1x128_S16x128) (Host.log (Host.reduceAdd (Host.exp (subf (addf x (broadcastInDim S16x128x128 ![0, 1, 2] bcast_S16x128x1_S16x128x128_0_1_2 (broadcastInDim S16x128x1 ![0, 1] bcast_S16x128_S16x128x1_0_1 p))) (broadcastInDim S16x128x128 ![0, 1, 2] bcast_S16x1x128_S16x128x128_0_1_2 (mx x p)))) (constant S_ .f32 0x00000000#32) reducesTo_S16x128x128_S16x128_d1 h_S_))

/-- It is `lse` of each sequence's scores. -/
theorem LSE_at (x : FVec Ideal S16x128x128 .f32) (p : FVec Ideal S16x128 .f32) (b : Fin 16) (j : Fin 128) :
    LSE x p (ix2 b j) = lse (fun l j => x (ix3 b l j)) (fun l => p (ix2 b l)) j := by
  pointwise [LSE, mx]
  rw [ninf]
  rfl

/-- The position a trip reads, as the words of its slice's start: it is not negative. -/
theorem word (n : Fin 64) : BitVec.toInt (select (cmpi .slt (id fun _ : S_.Idx => BitVec.ofNat 32 n) (constantI S_ 32 0#32))
    (addi (id fun _ : S_.Idx => BitVec.ofNat 32 n) (constantI S_ 32 64#32)) (id fun _ : S_.Idx => BitVec.ofNat 32 n) (Shape.Idx.first h_S_)) = (n : ℤ) := by
  revert n; decide +kernel

/-- A slice of one position of the scores, read at an index. -/
theorem cut4 (X : FVec Ideal S64x16x128x128 .f32) (start : Fin 4 → ℤ) (n : Fin 64)
    (hs : ∀ a, start a = ((![(n : ℕ), 0, 0, 0] : Fin 4 → ℕ) a : ℤ)) (b : Fin 16) (l j : Fin 128) :
    shapeCast S16x128x128 (Host.dynamicSlice S1x16x128x128 X start sliceFits_S64x16x128x128_S1x16x128x128) shapeCasts_S1x16x128x128_S16x128x128 (ix3 b l j)
      = X (ix4 n b l j) := by
  have hoff : S64x16x128x128.Slices ![(n : ℕ), 0, 0, 0] S1x16x128x128 := (by decide +kernel : ∀ n : Fin 64, S64x16x128x128.Slices ![(n : ℕ), 0, 0, 0] S1x16x128x128) n
  rw [Host.dynamicSlice_eq_extractStridedSlice _ _ _ _ _ hoff hs]
  pointwise

/-- A slice of one position of the target tags, read at an index. -/
theorem cut3 (X : IVec S64x16x128 1) (start : Fin 3 → ℤ) (n : Fin 64)
    (hs : ∀ a, start a = ((![(n : ℕ), 0, 0] : Fin 3 → ℕ) a : ℤ)) (b : Fin 16) (j : Fin 128) :
    shapeCast S16x128 (Host.dynamicSlice S1x16x128 X start sliceFits_S64x16x128_S1x16x128) shapeCasts_S1x16x128_S16x128 (ix2 b j)
      = X (ix3 n b j) := by
  have hoff : S64x16x128.Slices ![(n : ℕ), 0, 0] S1x16x128 := (by decide +kernel : ∀ n : Fin 64, S64x16x128.Slices ![(n : ℕ), 0, 0] S1x16x128) n
  rw [Host.dynamicSlice_eq_extractStridedSlice _ _ _ _ _ hoff hs]
  pointwise

/-- A slice of one position of the mask, read at an index. -/
theorem cut2 (X : IVec S64x16 1) (start : Fin 2 → ℤ) (n : Fin 64)
    (hs : ∀ a, start a = ((![(n : ℕ), 0] : Fin 2 → ℕ) a : ℤ)) (b : Fin 16) :
    shapeCast S16 (Host.dynamicSlice S1x16 X start sliceFits_S64x16_S1x16) shapeCasts_S1x16_S16 (ix1 b)
      = X (ix2 n b) := by
  have hoff : S64x16.Slices ![(n : ℕ), 0] S1x16 := (by decide +kernel : ∀ n : Fin 64, S64x16.Slices ![(n : ℕ), 0] S1x16) n
  rw [Host.dynamicSlice_eq_extractStridedSlice _ _ _ _ _ hoff hs]
  pointwise

variable (V : Valuation τ sig (Elt Ideal)) (n : Fin 64) (hn : V (Proc.devRef .tc main_v10_4) = fun _ => BitVec.ofNat 32 n)

include hn in
/-- The scores a trip reads. -/
theorem v37 (b : Fin 16) (l j : Fin 128) : res_main_while0b_v37 V (ix3 b l j) = V (Proc.devRef .tc main_v10_0) (ix4 n b l j) := by
  unfold res_main_while0b_v37 res_main_while0b_v23
  rw [hn]
  refine cut4 _ _ n (fun a => ?_) b l j
  fin_cases a
  · exact word n
  all_goals rfl

include hn in
/-- The mask a trip reads. -/
theorem v84 (b : Fin 16) : res_main_while0b_v84 V (ix2 b 0) = V (Proc.devRef .tc main_v10_2) (ix2 n b) := by
  unfold res_main_while0b_v84 res_main_while0b_v75
  rw [hn]
  refine cut2 _ _ n (fun a => ?_) b
  fin_cases a
  · exact word n
  all_goals rfl

include hn in
/-- One trip of the partition, where the mask is set. -/
theorem step5 (b : Fin 16) (j : Fin 128) (hm : V (Proc.devRef .tc main_v10_2) (ix2 n b) = 1#1) :
    step_main_v10_5 V (ix2 b j)
      = lse (fun l j => V (Proc.devRef .tc main_v10_0) (ix4 n b l j)) (fun l => V (Proc.devRef .tc main_v10_5) (ix2 b l)) j := by
  have h1 : step_main_v10_5 V (ix2 b j) = Scalar.select (res_main_while0b_v84 V (ix2 b 0)) (LSE (res_main_while0b_v37 V) (V (Proc.devRef .tc main_v10_5)) (ix2 b j)) (V (Proc.devRef .tc main_v10_5) (ix2 b j)) := rfl
  rw [h1, v84 V n hn, hm, LSE_at]
  simp only [v37 V n hn]
  rfl

include hn in
/-- One trip of the tag partition, where the mask is set. -/
theorem step6 (b : Fin 16) (j : Fin 128) (hm : V (Proc.devRef .tc main_v10_2) (ix2 n b) = 1#1) :
    step_main_v10_6 V (ix2 b j)
      = if V (Proc.devRef .tc main_v10_1) (ix3 n b j) = 1#1 then (⊥ : EReal) else
        lse (fun l j => V (Proc.devRef .tc main_v10_0) (ix4 n b l j)) (fun l => V (Proc.devRef .tc main_v10_6) (ix2 b l)) j := by
  have h1 : step_main_v10_6 V (ix2 b j) = Scalar.select (res_main_while0b_v84 V (ix2 b 0)) (Scalar.select (V (Proc.devRef .tc main_v10_1) (ix3 n b j)) (Ideal.ofBits .f32 0xFF800000#32) (LSE (res_main_while0b_v37 V) (V (Proc.devRef .tc main_v10_6)) (ix2 b j))) (V (Proc.devRef .tc main_v10_6) (ix2 b j)) := by
    unfold step_main_v10_6 res_main_while0b_v38
    rw [hn]
    refine (congrArg (fun z : BitVec 1 => Scalar.select _ (Scalar.select z _ _) _) (cut3 _ _ n (fun a => ?_) b j)).trans ?_
    rotate_left
    · rfl
    fin_cases a
    · exact word n
    all_goals rfl
  rw [h1, v84 V n hn, hm, LSE_at, ninf]
  simp only [v37 V n hn]
  rfl

/-- The result: the sum over the sequences of the partition at the last tag, less the sum of the tag partition there where it
    is not minus infinity. -/
theorem outv (V : Valuation τ sig (Elt Ideal)) :
    (show FVec Ideal S1x1x1 .f32 from out_main_v21 V) (ix3 0 0 0)
      = (∑ b : Fin 16, (show FVec Ideal S16x128 .f32 from V (Proc.devRef .tc main_v10_5)) (ix2 b 127))
        - ∑ b : Fin 16, if (show FVec Ideal S16x128 .f32 from V (Proc.devRef .tc main_v10_6)) (ix2 b 127) = ⊥ then (0 : EReal)
            else (show FVec Ideal S16x128 .f32 from V (Proc.devRef .tc main_v10_6)) (ix2 b 127) := by
  pointwise [out_main_v21, id]
  rw [ninf]

end Cert.ReferenceIdeal.Crf

end
-- ==== Proof.RefFold.lean ====
module

public import proofs.«01_k».proof.Proof.RefStep
public import proofs.«01_k».proof.Proof.Gate

@[expose] public section

set_option maxRecDepth 16384
noncomputable section

/-!
# The reference over its sixty-four positions
-/

namespace Cert.ReferenceIdeal.Crf

open Cert.ReferenceIdeal Cert.ReferenceIdeal.Gen Cert.ReferenceIdeal.Value Idealize.ShloMosaic Idealize.ShloMosaic.TcCoe Idealize.ShloMosaic.StableHlo Idealize.SL.Sem
open Cert.Crf

variable (m : (ℓ : Loc nD τ sig) → Buf (Elt Ideal) ℓ) (c : Dev nD)

/-- The scores. -/
abbrev X : S16x64x128x128.Idx → EReal := m ((c : Thread nD τ).loc main_arg0)
/-- The target. -/
abbrev T : S16x64x128.Idx → BitVec 1 := m ((c : Thread nD τ).loc main_arg1)
/-- The mask. -/
abbrev M : S16x64.Idx → BitVec 1 := m ((c : Thread nD τ).loc main_arg2)

/-- The scores as the loop reads them: positions first. -/
theorem entry0 (t : Fin 64) (b : Fin 16) (l j : Fin 128) :
    entryContents preI m c (Proc.devRef .tc main_v10_0) (ix4 t b l j) = X m c (ix4 b t l j) := by
  simp only [entryContents, afterL_cons, afterL_nil]
  after_reads_simp
  simp only [id]
  pointwise
  try rfl

/-- The target as the loop reads it. -/
theorem entry1 (t : Fin 64) (b : Fin 16) (j : Fin 128) :
    entryContents preI m c (Proc.devRef .tc main_v10_1) (ix3 t b j) = T m c (ix3 b t j) := by
  simp only [entryContents, afterL_cons, afterL_nil]
  after_reads_simp
  simp only [id]
  pointwise
  try rfl

/-- The mask as the loop reads it. -/
theorem entry2 (t : Fin 64) (b : Fin 16) :
    entryContents preI m c (Proc.devRef .tc main_v10_2) (ix2 t b) = M m c (ix2 b t) := by
  simp only [entryContents, afterL_cons, afterL_nil]
  after_reads_simp
  simp only [id]
  pointwise
  try rfl

/-- The loop starts at position one. -/
theorem entry4 : entryContents preI m c (Proc.devRef .tc main_v10_4) = fun _ => BitVec.ofNat 32 1 := by
  simp only [entryContents, afterL_cons, afterL_nil]
  after_reads_simp
  rfl

/-- The first masses of row 0. -/
theorem entry5 (b : Fin 16) (j : Fin 128) :
    entryContents preI m c (Proc.devRef .tc main_v10_5) (ix2 b j) = X m c (ix4 b 0 126 j) := by
  simp only [entryContents, afterL_cons, afterL_nil]
  after_reads_simp
  pointwise
  try rfl

/-- The first masses of row 1. -/
theorem entry6 (b : Fin 16) (j : Fin 128) :
    entryContents preI m c (Proc.devRef .tc main_v10_6) (ix2 b j) = if T m c (ix3 b 0 j) = 1#1 then (⊥ : EReal) else X m c (ix4 b 0 126 j) := by
  simp only [entryContents, afterL_cons, afterL_nil]
  after_reads_simp
  pointwise
  change (select (fun i => T m c (ix3 (i 0) 0 (i 1))) (broadcastInDim S16x128 ![] bcast_S_S16x128 (constant S_ .f32 0xFF800000#32))
    (fun i => X m c (ix4 (i 0) 0 126 (i 1))) : FVec Ideal S16x128 .f32) (ix2 b j) = _
  pointwise
  rw [ninf]
  rfl

/-- What the loop holds before position `k + 1`: the arrays, the position, and the two rows' log masses. -/
structure Inv (k : ℕ) (V : Valuation τ sig (Elt Ideal)) : Prop where
  pos : V (Proc.devRef .tc main_v10_4) = fun _ => BitVec.ofNat 32 (k + 1)
  xs : ∀ (t : Fin 64) (b : Fin 16) (l j : Fin 128), V (Proc.devRef .tc main_v10_0) (ix4 t b l j) = X m c (ix4 b t l j)
  ts : ∀ (t : Fin 64) (b : Fin 16) (j : Fin 128), V (Proc.devRef .tc main_v10_1) (ix3 t b j) = T m c (ix3 b t j)
  ms : ∀ (t : Fin 64) (b : Fin 16), V (Proc.devRef .tc main_v10_2) (ix2 t b) = M m c (ix2 b t)
  row0 : ∀ (b : Fin 16) (j : Fin 128), V (Proc.devRef .tc main_v10_5) (ix2 b j) = RF (sc (X m c) b) (gate (T m c) b 0) k j
  row1 : ∀ (b : Fin 16) (j : Fin 128), V (Proc.devRef .tc main_v10_6) (ix2 b j) = RF (sc (X m c) b) (gate (T m c) b 1) k j

/-- Before the first trip. -/
theorem inv_entry : Inv m c 0 (entryContents preI m c) where
  pos := entry4 m c
  xs := entry0 m c
  ts := entry1 m c
  ms := entry2 m c
  row0 := fun b j => by
    rw [entry5]; unfold RF; rw [gate_zero]; rfl
  row1 := fun b j => by
    rw [entry6]; unfold RF gate
    by_cases h : T m c (ix3 b 0 j) = 1#1
    · rw [if_pos h, if_pos (by simpa using h)]
    · rw [if_neg h, if_neg (by simpa using h)]; rfl

/-- The next position's word. -/
theorem word_next (k : ℕ) : BitVec.ofNat 32 (k + 1) + 1#32 = BitVec.ofNat 32 (k + 1 + 1) := by
  rw [BitVec.ofNat_add (k + 1) 1]

/-- One trip. -/
theorem inv_step (hM : ∀ i, M m c i = 1#1) (k : ℕ) (hk : k < 63) (V : Valuation τ sig (Elt Ideal)) (h : Inv m c k V) :
    Inv m c (k + 1) (STEP V) where
  pos := by
    rw [STEP_main_v10_4]; unfold step_main_v10_4; rw [h.pos]
    funext i
    exact word_next k
  xs := by rw [STEP_main_v10_0]; exact h.xs
  ts := by rw [STEP_main_v10_1]; exact h.ts
  ms := by rw [STEP_main_v10_2]; exact h.ms
  row0 := fun b j => by
    have hn : (Fin.ofNat 64 (k + 1)) = (⟨k + 1, by omega⟩ : Fin 64) := Fin.ext (Nat.mod_eq_of_lt (by omega))
    rw [STEP_main_v10_5, step5 V ⟨k + 1, by omega⟩ h.pos b j ((h.ms _ b).trans (hM _))]
    unfold RF
    rw [gate_zero, if_neg (by decide)]
    simp only [h.xs, h.row0]
    unfold sc
    rw [hn]
  row1 := fun b j => by
    have hn : (Fin.ofNat 64 (k + 1)) = (⟨k + 1, by omega⟩ : Fin 64) := Fin.ext (Nat.mod_eq_of_lt (by omega))
    rw [STEP_main_v10_6, step6 V ⟨k + 1, by omega⟩ h.pos b j ((h.ms _ b).trans (hM _))]
    conv_rhs => unfold RF
    have hg : gate (T m c) b 1 (k + 1) j = decide (T m c (ix3 b ⟨k + 1, by omega⟩ j) = 1#1) := by unfold gate; rw [hn]; simp
    rw [hg]
    simp only [h.xs, h.row1, h.ts, decide_eq_true_eq]
    unfold sc
    rw [hn]

/-- After `k` trips. -/
theorem inv_all (hM : ∀ i, M m c i = 1#1) : ∀ k, k ≤ 63 → Inv m c k (STEP^[k] (entryContents preI m c))
  | 0, _ => inv_entry m c
  | k + 1, hk => by
    rw [Function.iterate_succ_apply']
    exact inv_step m c hM k (by omega) _ (inv_all hM k (by omega))

/-- The last row read: zero for a dropped tag, the log mass otherwise. -/
def last (b : Fin 16) (r : Fin 2) : ℝ :=
  if gate (T m c) b r 63 127 then 0 else Real.log (A (scr (X m c) b) (gate (T m c) b r) 63 127)

/-- The reference's result. -/
theorem out_eq (hM : ∀ i, M m c i = 1#1) (h : Tame (X m c) (T m c)) :
    (show FVec Ideal S1x1x1 .f32 from out_main_v21 (STEP^[63] (entryContents preI m c))) (ix3 0 0 0)
      = ((∑ b : Fin 16, (last m c b 0 - last m c b 1) : ℝ) : EReal) := by
  have hi := inv_all m c hM 63 le_rfl
  generalize STEP^[63] (entryContents preI m c) = V at hi ⊢
  have hr : ∀ (b : Fin 16) (r : Fin 2), RF (sc (X m c) b) (gate (T m c) b r) 63 127 = Ideal.log ((A (scr (X m c) b) (gate (T m c) b r) 63 127 : ℝ) : EReal) := by
    intro b r
    rw [sc_real h b]
    exact RF_eq _ _ (gate_keeps h b r) 63 127
  have h0 : ∀ b : Fin 16, (show FVec Ideal S16x128 .f32 from V (Proc.devRef .tc main_v10_5)) (ix2 b 127) = ((last m c b 0 : ℝ) : EReal) := by
    intro b
    refine (hi.row0 b 127).trans ?_
    have hg : gate (T m c) b 0 63 127 = false := gate_zero ..
    rw [hr, log_pos_coe (A_pos _ _ (gate_keeps h b 0) 63 127 hg)]
    unfold last
    rw [hg]; rfl
  have h1 : ∀ b : Fin 16, (if (show FVec Ideal S16x128 .f32 from V (Proc.devRef .tc main_v10_6)) (ix2 b 127) = ⊥ then (0 : EReal)
      else (show FVec Ideal S16x128 .f32 from V (Proc.devRef .tc main_v10_6)) (ix2 b 127)) = ((last m c b 1 : ℝ) : EReal) := by
    intro b
    have e : (show FVec Ideal S16x128 .f32 from V (Proc.devRef .tc main_v10_6)) (ix2 b 127) = _ := (hi.row1 b 127).trans (hr b 1)
    rw [e]
    exact log_read _ _ (gate_keeps h b 1) 63 127
  rw [outv, Finset.sum_congr rfl fun b _ => h0 b, Finset.sum_congr rfl fun b _ => h1 b, sum_real, sum_real, ← EReal.coe_sub, Finset.sum_sub_distrib]

end Cert.ReferenceIdeal.Crf

end
-- ==== Proof.Quiet.lean ====
module

public import proofs.«01_k».proof.Proof.Gen.ReferenceIdeal.Run

@[expose] public section

noncomputable section

/-!
# The reference's frame

The reference has no semaphore, so every counter is zero at its end.
-/

namespace Cert.ReferenceIdeal.Crf

open Cert.ReferenceIdeal Cert.ReferenceIdeal.Gen Cert.ReferenceIdeal.Value Idealize.ShloMosaic Idealize.ShloMosaic.TcCoe Idealize.SL.Sem

/-- The reference has no semaphore cell. -/
theorem no_cell (s : SemLoc sig) : False := by
  rcases s with s | s
  · exact s.elim0
  · exact s.elim0

variable {F : FTy → Type} [FloatOps F] (m : (ℓ : Loc nD τ sig) → Buf (Elt F) ℓ) (g : Dev nD → PrngReg)

/-- The reference runs, leaves its arguments unchanged and every counter at zero. -/
theorem frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, funext fun s => (no_cell s.2).elim⟩) (run m g)

end Cert.ReferenceIdeal.Crf

end
-- ==== Proof.Pre.lean ====
module

public import proofs.«01_k».proof.Pre_tame
public import Idealize.ShloMosaic.Lib.ReduceAll
public import Idealize.ShloMosaic.Lib.Pointwise
public import proofs.«01_k».proof.Proof.Gate

@[expose] public section

set_option maxRecDepth 16384
noncomputable section

/-!
# The precondition, read
-/

namespace Cert.Pre_tame

open Idealize.ShloMosaic
open Cert.Crf

/-- The shape facts the precondition takes. -/
theorem facts : Facts where
  bcast_S_S16x64x128x128 := by decide
  reducesTo_S16x64x128x128_S_d0_1_2_3 := by decide
  h_S_ := by decide
  reducesTo_S16x64x128_S16x64_d2 := by decide
  reducesTo_S16x64_S_d0_1 := by decide

/-- An `or` over finitely many bits that is one met a one. -/
theorem fold_ori {ι : Type} (f : ι → BitVec 1) (s : Finset ι) (h : s.fold IntOp.ori (0#1) f = 1#1) : ∃ i ∈ s, f i = 1#1 := by
  classical
  induction s using Finset.induction_on with
  | empty => rw [Finset.fold_empty] at h; exact absurd h (by decide)
  | insert a s ha ih =>
    rw [Finset.fold_insert ha] at h
    rcases IntOp.ori_eq_one.1 h with h1 | h1
    · exact ⟨a, Finset.mem_insert_self a s, h1⟩
    · obtain ⟨i, hi, e⟩ := ih h1
      exact ⟨i, Finset.mem_insert_of_mem hi, e⟩

/-- The word of minus ten. -/
theorem low_word : Ideal.ofBits .f32 0xC1200000#32 = ((-10 : ℝ) : EReal) := by
  simp [Ideal.ofBits, Ideal.ieee, -EReal.coe_mul, -EReal.coe_neg]; norm_num

/-- The word of ten. -/
theorem high_word : Ideal.ofBits .f32 0x41200000#32 = ((10 : ℝ) : EReal) := by
  simp [Ideal.ofBits, Ideal.ieee, -EReal.coe_mul]; norm_num

variable [Facts]
open Facts

/-- The precondition holds on the domain only, with the mask one everywhere. -/
theorem read (X : FVec Ideal S16x64x128x128 .f32) (T : IVec S16x64x128 1) (M : IVec S16x64 1) (h : fn (F := Ideal) X T M = fun _ => 1#1) :
    Tame X T ∧ ∀ i, M i = 1#1 := by
  have h0 := congrFun h (Shape.Idx.first h_S_)
  unfold fn at h0
  dsimp only at h0
  obtain ⟨h1, h2⟩ := IntOp.andi_eq_one.1 h0
  obtain ⟨h3, h4⟩ := IntOp.andi_eq_one.1 h1
  have hs : Subsingleton S_.Idx := ⟨fun a b => funext fun i => i.elim0⟩
  refine ⟨⟨fun i => ?_, fun b t => ?_⟩, fun i => Host.reduce_andi_all _ _ _ _ _ h2 i⟩
  · have h5 := Host.reduce_andi_all _ _ _ _ _ h3 i
    pointwise at h5
    obtain ⟨ha, hb⟩ := IntOp.andi_eq_one.1 h5
    have ha' : Ideal.ofBits .f32 0xC1200000#32 ≤ X i := by
      by_contra hn; rw [decide_eq_false hn] at ha; exact absurd ha (by decide)
    have hb' : X i ≤ Ideal.ofBits .f32 0x41200000#32 := by
      by_contra hn; rw [decide_eq_false hn] at hb; exact absurd hb (by decide)
    rw [low_word] at ha'
    rw [high_word] at hb'
    have hX : X i = ((X i).toReal : EReal) :=
      (EReal.coe_toReal (ne_of_lt (hb'.trans_lt (EReal.coe_lt_top _))) (ne_of_gt ((EReal.bot_lt_coe _).trans_le ha'))).symm
    rw [hX] at ha' hb'
    exact ⟨_, hX, abs_le.2 ⟨EReal.coe_le_coe_iff.1 ha', EReal.coe_le_coe_iff.1 hb'⟩⟩
  · have h5 := Host.reduce_andi_all _ _ _ _ _ h4 (ix2 b t)
    pointwise at h5
    obtain ⟨j, -, hj⟩ := fold_ori _ _ h5
    refine ⟨j, ?_⟩
    generalize T (ix3 b t j) = y at hj ⊢
    revert hj; revert y; decide

end Cert.Pre_tame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.KernelFold
public import proofs.«01_k».proof.Proof.RefFold
public import proofs.«01_k».proof.Proof.Quiet
public import proofs.«01_k».proof.Proof.Pre
public import Idealize.ShloMosaic.Adequacy
public import Idealize.ShloMosaic.Init

@[expose] public section

noncomputable section

namespace Cert.Proof

open Idealize.ShloMosaic Idealize.SL.Sem Cert.Kernel

/-- An array of one element on each of three axes has one index. -/
theorem only_ix (i : Cert.KernelIdeal.S1x1x1.Idx) : i = ix3 0 0 0 := by
  funext a
  fin_cases a <;> exact Subsingleton.elim (α := Fin 1) _ _

/-- The kernel and the reference, from agreeing arguments in the domain, end with equal results. -/
theorem value [hP : Cert.Pre_tame.Facts] :
    Cert.algebraic_KernelIdeal_ReferenceIdeal_pre_tame (hKernelIdeal := Cert.KernelIdeal.Gen.facts)
      (hReferenceIdeal := Cert.ReferenceIdeal.Gen.facts) (hPre_tame := hP) := by
  pair_intro
  · run_from Cert.KernelIdeal.Value.run m g
  · run_from Cert.ReferenceIdeal.Value.run m' g'
    obtain ⟨e0, e1, e2⟩ := hagree c
    obtain ⟨hT, hM⟩ := @Cert.Pre_tame.read hP _ _ _ (hpre c)
    have hT' : Cert.Crf.Tame (Cert.ReferenceIdeal.Crf.X m' c) (Cert.ReferenceIdeal.Crf.T m' c) := by
      unfold Cert.ReferenceIdeal.Crf.X Cert.ReferenceIdeal.Crf.T
      rw [e0, e1]
      exact hT
    have hM' : ∀ i, Cert.ReferenceIdeal.Crf.M m' c i = 1#1 := by
      unfold Cert.ReferenceIdeal.Crf.M
      rw [e2]
      exact hM
    have hl : ∀ b r, Cert.ReferenceIdeal.Crf.last m' c b r = Cert.KernelIdeal.Crf.last m c b r := by
      intro b r
      unfold Cert.ReferenceIdeal.Crf.last Cert.KernelIdeal.Crf.last Cert.ReferenceIdeal.Crf.X Cert.ReferenceIdeal.Crf.T
      rw [e0, e1]
    funext i
    obtain rfl : i = ix3 0 0 0 := only_ix i
    refine (Cert.ReferenceIdeal.Crf.out_eq m' c hM' hT').trans (Eq.trans ?_ (Cert.KernelIdeal.Crf.G2_eq m c hT).symm)
    simp only [hl]

/-- The five claims. -/
theorem claim : Cert.Claim :=
  ⟨Cert.Kernel.Gen.facts, Cert.KernelIdeal.Gen.facts, Cert.ReferenceIdeal.Gen.facts, Cert.Pre_tame.facts,
    fun m g _ => Cert.Kernel.Gen.frame m g, fun m g _ => Cert.KernelIdeal.Gen.frame m g, fun m g _ => Cert.KernelIdeal.Gen.frame m g,
    fun m g _ => Cert.ReferenceIdeal.Crf.frame m g, fun m g _ => Cert.ReferenceIdeal.Crf.frame m g,
    trivial, @value Cert.Pre_tame.facts⟩

end Cert.Proof

end
